-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Linear1 (m : (ℓ : Loc Cert.Linear1.nD Cert.Linear1.τ Cert.Linear1.sig) → Buf (Elt Bits) ℓ) : Prop :=
  True

def Pre_Linear1Ideal (m : (ℓ : Loc Cert.Linear1Ideal.nD Cert.Linear1Ideal.τ Cert.Linear1Ideal.sig) → Buf (Elt Ideal) ℓ) : Prop :=
  True

def Pre_Linear1ReferenceIdeal (m : (ℓ : Loc Cert.Linear1ReferenceIdeal.nD Cert.Linear1ReferenceIdeal.τ Cert.Linear1ReferenceIdeal.sig) → Buf (Elt Ideal) ℓ) : Prop :=
  True

def Pre_Linear1Exact (m : (ℓ : Loc Cert.Linear1Exact.nD Cert.Linear1Exact.τ Cert.Linear1Exact.sig) → Buf (Elt Bits) ℓ) : Prop :=
  True

def Pre_Linear1ExactIdeal (m : (ℓ : Loc Cert.Linear1ExactIdeal.nD Cert.Linear1ExactIdeal.τ Cert.Linear1ExactIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Linear1 [hLinear1 : Cert.Linear1.Facts] : Prop :=
  ∀ (m : (ℓ : Loc Cert.Linear1.nD Cert.Linear1.τ Cert.Linear1.sig) → Buf (Elt Bits) ℓ) (g : Dev Cert.Linear1.nD → PrngReg), Pre_Linear1 m →
    θ_run (Cert.Linear1.defs (F := Bits)) (onTc (τ := Cert.Linear1.τ) (Cert.Linear1.main (F := Bits))) ⟨m, fun _ => 0, g⟩ (fun r => (∀ c : Dev Cert.Linear1.nD,
      r.2.mem ((c.tc : Thread Cert.Linear1.nD Cert.Linear1.τ).loc Cert.Linear1.main_arg0) = m ((c.tc : Thread Cert.Linear1.nD Cert.Linear1.τ).loc Cert.Linear1.main_arg0)
      ∧ r.2.mem ((c.tc : Thread Cert.Linear1.nD Cert.Linear1.τ).loc Cert.Linear1.main_arg1) = m ((c.tc : Thread Cert.Linear1.nD Cert.Linear1.τ).loc Cert.Linear1.main_arg1)
      ∧ r.2.mem ((c.tc : Thread Cert.Linear1.nD Cert.Linear1.τ).loc Cert.Linear1.main_arg2) = m ((c.tc : Thread Cert.Linear1.nD Cert.Linear1.τ).loc Cert.Linear1.main_arg2)
      ∧ r.2.mem ((c.tc : Thread Cert.Linear1.nD Cert.Linear1.τ).loc Cert.Linear1.main_arg3) = m ((c.tc : Thread Cert.Linear1.nD Cert.Linear1.τ).loc Cert.Linear1.main_arg3)
      ∧ r.2.mem ((c.tc : Thread Cert.Linear1.nD Cert.Linear1.τ).loc Cert.Linear1.main_arg4) = m ((c.tc : Thread Cert.Linear1.nD Cert.Linear1.τ).loc Cert.Linear1.main_arg4))
      ∧ r.2.sem = fun _ => 0)

def quiescent_Linear1Ideal [hLinear1Ideal : Cert.Linear1Ideal.Facts] : Prop :=
  ∀ (m : (ℓ : Loc Cert.Linear1Ideal.nD Cert.Linear1Ideal.τ Cert.Linear1Ideal.sig) → Buf (Elt Ideal) ℓ) (g : Dev Cert.Linear1Ideal.nD → PrngReg), Pre_Linear1Ideal m →
    θ_run (Cert.Linear1Ideal.defs (F := Ideal)) (onTc (τ := Cert.Linear1Ideal.τ) (Cert.Linear1Ideal.main (F := Ideal))) ⟨m, fun _ => 0, g⟩ (fun r => (∀ c : Dev Cert.Linear1Ideal.nD,
      r.2.mem ((c.tc : Thread Cert.Linear1Ideal.nD Cert.Linear1Ideal.τ).loc Cert.Linear1Ideal.main_arg0) = m ((c.tc : Thread Cert.Linear1Ideal.nD Cert.Linear1Ideal.τ).loc Cert.Linear1Ideal.main_arg0)
      ∧ r.2.mem ((c.tc : Thread Cert.Linear1Ideal.nD Cert.Linear1Ideal.τ).loc Cert.Linear1Ideal.main_arg1) = m ((c.tc : Thread Cert.Linear1Ideal.nD Cert.Linear1Ideal.τ).loc Cert.Linear1Ideal.main_arg1)
      ∧ r.2.mem ((c.tc : Thread Cert.Linear1Ideal.nD Cert.Linear1Ideal.τ).loc Cert.Linear1Ideal.main_arg2) = m ((c.tc : Thread Cert.Linear1Ideal.nD Cert.Linear1Ideal.τ).loc Cert.Linear1Ideal.main_arg2)
      ∧ r.2.mem ((c.tc : Thread Cert.Linear1Ideal.nD Cert.Linear1Ideal.τ).loc Cert.Linear1Ideal.main_arg3) = m ((c.tc : Thread Cert.Linear1Ideal.nD Cert.Linear1Ideal.τ).loc Cert.Linear1Ideal.main_arg3)
      ∧ r.2.mem ((c.tc : Thread Cert.Linear1Ideal.nD Cert.Linear1Ideal.τ).loc Cert.Linear1Ideal.main_arg4) = m ((c.tc : Thread Cert.Linear1Ideal.nD Cert.Linear1Ideal.τ).loc Cert.Linear1Ideal.main_arg4))
      ∧ r.2.sem = fun _ => 0)

def quiescent_Linear1ReferenceIdeal [hLinear1ReferenceIdeal : Cert.Linear1ReferenceIdeal.Facts] : Prop :=
  ∀ (m : (ℓ : Loc Cert.Linear1ReferenceIdeal.nD Cert.Linear1ReferenceIdeal.τ Cert.Linear1ReferenceIdeal.sig) → Buf (Elt Ideal) ℓ) (g : Dev Cert.Linear1ReferenceIdeal.nD → PrngReg), Pre_Linear1ReferenceIdeal m →
    θ_run (Cert.Linear1ReferenceIdeal.defs (F := Ideal)) (onTc (τ := Cert.Linear1ReferenceIdeal.τ) (Cert.Linear1ReferenceIdeal.main (F := Ideal))) ⟨m, fun _ => 0, g⟩ (fun r => (∀ c : Dev Cert.Linear1ReferenceIdeal.nD,
      r.2.mem ((c.tc : Thread Cert.Linear1ReferenceIdeal.nD Cert.Linear1ReferenceIdeal.τ).loc Cert.Linear1ReferenceIdeal.main_arg0) = m ((c.tc : Thread Cert.Linear1ReferenceIdeal.nD Cert.Linear1ReferenceIdeal.τ).loc Cert.Linear1ReferenceIdeal.main_arg0)
      ∧ r.2.mem ((c.tc : Thread Cert.Linear1ReferenceIdeal.nD Cert.Linear1ReferenceIdeal.τ).loc Cert.Linear1ReferenceIdeal.main_arg1) = m ((c.tc : Thread Cert.Linear1ReferenceIdeal.nD Cert.Linear1ReferenceIdeal.τ).loc Cert.Linear1ReferenceIdeal.main_arg1)
      ∧ r.2.mem ((c.tc : Thread Cert.Linear1ReferenceIdeal.nD Cert.Linear1ReferenceIdeal.τ).loc Cert.Linear1ReferenceIdeal.main_arg2) = m ((c.tc : Thread Cert.Linear1ReferenceIdeal.nD Cert.Linear1ReferenceIdeal.τ).loc Cert.Linear1ReferenceIdeal.main_arg2)
      ∧ r.2.mem ((c.tc : Thread Cert.Linear1ReferenceIdeal.nD Cert.Linear1ReferenceIdeal.τ).loc Cert.Linear1ReferenceIdeal.main_arg3) = m ((c.tc : Thread Cert.Linear1ReferenceIdeal.nD Cert.Linear1ReferenceIdeal.τ).loc Cert.Linear1ReferenceIdeal.main_arg3)
      ∧ r.2.mem ((c.tc : Thread Cert.Linear1ReferenceIdeal.nD Cert.Linear1ReferenceIdeal.τ).loc Cert.Linear1ReferenceIdeal.main_arg4) = m ((c.tc : Thread Cert.Linear1ReferenceIdeal.nD Cert.Linear1ReferenceIdeal.τ).loc Cert.Linear1ReferenceIdeal.main_arg4))
      ∧ r.2.sem = fun _ => 0)

def quiescent_Linear1Exact [hLinear1Exact : Cert.Linear1Exact.Facts] : Prop :=
  ∀ (m : (ℓ : Loc Cert.Linear1Exact.nD Cert.Linear1Exact.τ Cert.Linear1Exact.sig) → Buf (Elt Bits) ℓ) (g : Dev Cert.Linear1Exact.nD → PrngReg), Pre_Linear1Exact m →
    θ_run (Cert.Linear1Exact.defs (F := Bits)) (onTc (τ := Cert.Linear1Exact.τ) (Cert.Linear1Exact.main (F := Bits))) ⟨m, fun _ => 0, g⟩ (fun r => (∀ c : Dev Cert.Linear1Exact.nD,
      r.2.mem ((c.tc : Thread Cert.Linear1Exact.nD Cert.Linear1Exact.τ).loc Cert.Linear1Exact.main_arg0) = m ((c.tc : Thread Cert.Linear1Exact.nD Cert.Linear1Exact.τ).loc Cert.Linear1Exact.main_arg0)
      ∧ r.2.mem ((c.tc : Thread Cert.Linear1Exact.nD Cert.Linear1Exact.τ).loc Cert.Linear1Exact.main_arg1) = m ((c.tc : Thread Cert.Linear1Exact.nD Cert.Linear1Exact.τ).loc Cert.Linear1Exact.main_arg1)
      ∧ r.2.mem ((c.tc : Thread Cert.Linear1Exact.nD Cert.Linear1Exact.τ).loc Cert.Linear1Exact.main_arg2) = m ((c.tc : Thread Cert.Linear1Exact.nD Cert.Linear1Exact.τ).loc Cert.Linear1Exact.main_arg2)
      ∧ r.2.mem ((c.tc : Thread Cert.Linear1Exact.nD Cert.Linear1Exact.τ).loc Cert.Linear1Exact.main_arg3) = m ((c.tc : Thread Cert.Linear1Exact.nD Cert.Linear1Exact.τ).loc Cert.Linear1Exact.main_arg3)
      ∧ r.2.mem ((c.tc : Thread Cert.Linear1Exact.nD Cert.Linear1Exact.τ).loc Cert.Linear1Exact.main_arg4) = m ((c.tc : Thread Cert.Linear1Exact.nD Cert.Linear1Exact.τ).loc Cert.Linear1Exact.main_arg4))
      ∧ r.2.sem = fun _ => 0)

def quiescent_Linear1ExactIdeal [hLinear1ExactIdeal : Cert.Linear1ExactIdeal.Facts] : Prop :=
  ∀ (m : (ℓ : Loc Cert.Linear1ExactIdeal.nD Cert.Linear1ExactIdeal.τ Cert.Linear1ExactIdeal.sig) → Buf (Elt Ideal) ℓ) (g : Dev Cert.Linear1ExactIdeal.nD → PrngReg), Pre_Linear1ExactIdeal m →
    θ_run (Cert.Linear1ExactIdeal.defs (F := Ideal)) (onTc (τ := Cert.Linear1ExactIdeal.τ) (Cert.Linear1ExactIdeal.main (F := Ideal))) ⟨m, fun _ => 0, g⟩ (fun r => (∀ c : Dev Cert.Linear1ExactIdeal.nD,
      r.2.mem ((c.tc : Thread Cert.Linear1ExactIdeal.nD Cert.Linear1ExactIdeal.τ).loc Cert.Linear1ExactIdeal.main_arg0) = m ((c.tc : Thread Cert.Linear1ExactIdeal.nD Cert.Linear1ExactIdeal.τ).loc Cert.Linear1ExactIdeal.main_arg0)
      ∧ r.2.mem ((c.tc : Thread Cert.Linear1ExactIdeal.nD Cert.Linear1ExactIdeal.τ).loc Cert.Linear1ExactIdeal.main_arg1) = m ((c.tc : Thread Cert.Linear1ExactIdeal.nD Cert.Linear1ExactIdeal.τ).loc Cert.Linear1ExactIdeal.main_arg1)
      ∧ r.2.mem ((c.tc : Thread Cert.Linear1ExactIdeal.nD Cert.Linear1ExactIdeal.τ).loc Cert.Linear1ExactIdeal.main_arg2) = m ((c.tc : Thread Cert.Linear1ExactIdeal.nD Cert.Linear1ExactIdeal.τ).loc Cert.Linear1ExactIdeal.main_arg2)
      ∧ r.2.mem ((c.tc : Thread Cert.Linear1ExactIdeal.nD Cert.Linear1ExactIdeal.τ).loc Cert.Linear1ExactIdeal.main_arg3) = m ((c.tc : Thread Cert.Linear1ExactIdeal.nD Cert.Linear1ExactIdeal.τ).loc Cert.Linear1ExactIdeal.main_arg3)
      ∧ r.2.mem ((c.tc : Thread Cert.Linear1ExactIdeal.nD Cert.Linear1ExactIdeal.τ).loc Cert.Linear1ExactIdeal.main_arg4) = m ((c.tc : Thread Cert.Linear1ExactIdeal.nD Cert.Linear1ExactIdeal.τ).loc Cert.Linear1ExactIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Linear1_Linear1Ideal : Prop :=
  True

def algebraic_Linear1Ideal_Linear1ReferenceIdeal [hLinear1Ideal : Cert.Linear1Ideal.Facts] [hLinear1ReferenceIdeal : Cert.Linear1ReferenceIdeal.Facts] : Prop :=
  ∀ (m : (ℓ : Loc Cert.Linear1Ideal.nD Cert.Linear1Ideal.τ Cert.Linear1Ideal.sig) → Buf (Elt Ideal) ℓ) (g : Dev Cert.Linear1Ideal.nD → PrngReg)
    (m' : (ℓ : Loc Cert.Linear1ReferenceIdeal.nD Cert.Linear1ReferenceIdeal.τ Cert.Linear1ReferenceIdeal.sig) → Buf (Elt Ideal) ℓ) (g' : Dev Cert.Linear1ReferenceIdeal.nD → PrngReg), Pre_Linear1Ideal m →
    (∀ c : Dev Cert.Linear1Ideal.nD,
      m' ((c.tc : Thread Cert.Linear1ReferenceIdeal.nD Cert.Linear1ReferenceIdeal.τ).loc Cert.Linear1ReferenceIdeal.main_arg0) = m ((c.tc : Thread Cert.Linear1Ideal.nD Cert.Linear1Ideal.τ).loc Cert.Linear1Ideal.main_arg0)
      ∧ m' ((c.tc : Thread Cert.Linear1ReferenceIdeal.nD Cert.Linear1ReferenceIdeal.τ).loc Cert.Linear1ReferenceIdeal.main_arg1) = m ((c.tc : Thread Cert.Linear1Ideal.nD Cert.Linear1Ideal.τ).loc Cert.Linear1Ideal.main_arg1)
      ∧ m' ((c.tc : Thread Cert.Linear1ReferenceIdeal.nD Cert.Linear1ReferenceIdeal.τ).loc Cert.Linear1ReferenceIdeal.main_arg2) = m ((c.tc : Thread Cert.Linear1Ideal.nD Cert.Linear1Ideal.τ).loc Cert.Linear1Ideal.main_arg2)
      ∧ m' ((c.tc : Thread Cert.Linear1ReferenceIdeal.nD Cert.Linear1ReferenceIdeal.τ).loc Cert.Linear1ReferenceIdeal.main_arg3) = m ((c.tc : Thread Cert.Linear1Ideal.nD Cert.Linear1Ideal.τ).loc Cert.Linear1Ideal.main_arg3)
      ∧ m' ((c.tc : Thread Cert.Linear1ReferenceIdeal.nD Cert.Linear1ReferenceIdeal.τ).loc Cert.Linear1ReferenceIdeal.main_arg4) = m ((c.tc : Thread Cert.Linear1Ideal.nD Cert.Linear1Ideal.τ).loc Cert.Linear1Ideal.main_arg4)) →
    ∃ (v0 : (c : Dev Cert.Linear1Ideal.nD) → Buf (Elt Ideal) ((c.tc : Thread Cert.Linear1Ideal.nD Cert.Linear1Ideal.τ).loc Cert.Linear1Ideal.main_v2)),
      θ_run (Cert.Linear1Ideal.defs (F := Ideal)) (onTc (τ := Cert.Linear1Ideal.τ) (Cert.Linear1Ideal.main (F := Ideal))) ⟨m, fun _ => 0, g⟩ (fun r => ∀ c : Dev Cert.Linear1Ideal.nD,
          r.2.mem ((c.tc : Thread Cert.Linear1Ideal.nD Cert.Linear1Ideal.τ).loc Cert.Linear1Ideal.main_v2) = v0 c
          ∧ r.2.mem ((c.tc : Thread Cert.Linear1Ideal.nD Cert.Linear1Ideal.τ).loc Cert.Linear1Ideal.main_arg0) = m ((c.tc : Thread Cert.Linear1Ideal.nD Cert.Linear1Ideal.τ).loc Cert.Linear1Ideal.main_arg0)
          ∧ r.2.mem ((c.tc : Thread Cert.Linear1Ideal.nD Cert.Linear1Ideal.τ).loc Cert.Linear1Ideal.main_arg1) = m ((c.tc : Thread Cert.Linear1Ideal.nD Cert.Linear1Ideal.τ).loc Cert.Linear1Ideal.main_arg1)
          ∧ r.2.mem ((c.tc : Thread Cert.Linear1Ideal.nD Cert.Linear1Ideal.τ).loc Cert.Linear1Ideal.main_arg2) = m ((c.tc : Thread Cert.Linear1Ideal.nD Cert.Linear1Ideal.τ).loc Cert.Linear1Ideal.main_arg2)
          ∧ r.2.mem ((c.tc : Thread Cert.Linear1Ideal.nD Cert.Linear1Ideal.τ).loc Cert.Linear1Ideal.main_arg3) = m ((c.tc : Thread Cert.Linear1Ideal.nD Cert.Linear1Ideal.τ).loc Cert.Linear1Ideal.main_arg3)
          ∧ r.2.mem ((c.tc : Thread Cert.Linear1Ideal.nD Cert.Linear1Ideal.τ).loc Cert.Linear1Ideal.main_arg4) = m ((c.tc : Thread Cert.Linear1Ideal.nD Cert.Linear1Ideal.τ).loc Cert.Linear1Ideal.main_arg4))
      ∧ θ_run (Cert.Linear1ReferenceIdeal.defs (F := Ideal)) (onTc (τ := Cert.Linear1ReferenceIdeal.τ) (Cert.Linear1ReferenceIdeal.main (F := Ideal))) ⟨m', fun _ => 0, g'⟩ (fun r => ∀ c : Dev Cert.Linear1ReferenceIdeal.nD,
          r.2.mem ((c.tc : Thread Cert.Linear1ReferenceIdeal.nD Cert.Linear1ReferenceIdeal.τ).loc Cert.Linear1ReferenceIdeal.main_v2) = v0 c
          ∧ r.2.mem ((c.tc : Thread Cert.Linear1ReferenceIdeal.nD Cert.Linear1ReferenceIdeal.τ).loc Cert.Linear1ReferenceIdeal.main_arg0) = m' ((c.tc : Thread Cert.Linear1ReferenceIdeal.nD Cert.Linear1ReferenceIdeal.τ).loc Cert.Linear1ReferenceIdeal.main_arg0)
          ∧ r.2.mem ((c.tc : Thread Cert.Linear1ReferenceIdeal.nD Cert.Linear1ReferenceIdeal.τ).loc Cert.Linear1ReferenceIdeal.main_arg1) = m' ((c.tc : Thread Cert.Linear1ReferenceIdeal.nD Cert.Linear1ReferenceIdeal.τ).loc Cert.Linear1ReferenceIdeal.main_arg1)
          ∧ r.2.mem ((c.tc : Thread Cert.Linear1ReferenceIdeal.nD Cert.Linear1ReferenceIdeal.τ).loc Cert.Linear1ReferenceIdeal.main_arg2) = m' ((c.tc : Thread Cert.Linear1ReferenceIdeal.nD Cert.Linear1ReferenceIdeal.τ).loc Cert.Linear1ReferenceIdeal.main_arg2)
          ∧ r.2.mem ((c.tc : Thread Cert.Linear1ReferenceIdeal.nD Cert.Linear1ReferenceIdeal.τ).loc Cert.Linear1ReferenceIdeal.main_arg3) = m' ((c.tc : Thread Cert.Linear1ReferenceIdeal.nD Cert.Linear1ReferenceIdeal.τ).loc Cert.Linear1ReferenceIdeal.main_arg3)
          ∧ r.2.mem ((c.tc : Thread Cert.Linear1ReferenceIdeal.nD Cert.Linear1ReferenceIdeal.τ).loc Cert.Linear1ReferenceIdeal.main_arg4) = m' ((c.tc : Thread Cert.Linear1ReferenceIdeal.nD Cert.Linear1ReferenceIdeal.τ).loc Cert.Linear1ReferenceIdeal.main_arg4))

def preserves_Linear1Exact_Linear1ExactIdeal : Prop :=
  True

def holds_Linear1ExactIdeal_near_exact [hLinear1ExactIdeal : Cert.Linear1ExactIdeal.Facts] [hPost_near_exact : Cert.Post_near_exact.Facts] : Prop :=
  ∀ (m : (ℓ : Loc Cert.Linear1ExactIdeal.nD Cert.Linear1ExactIdeal.τ Cert.Linear1ExactIdeal.sig) → Buf (Elt Ideal) ℓ) (g : Dev Cert.Linear1ExactIdeal.nD → PrngReg), Pre_Linear1ExactIdeal m →
    θ_run (Cert.Linear1ExactIdeal.defs (F := Ideal)) (onTc (τ := Cert.Linear1ExactIdeal.τ) (Cert.Linear1ExactIdeal.main (F := Ideal))) ⟨m, fun _ => 0, g⟩ (fun r => ∀ c : Dev Cert.Linear1ExactIdeal.nD,
      r.2.mem ((c.tc : Thread Cert.Linear1ExactIdeal.nD Cert.Linear1ExactIdeal.τ).loc Cert.Linear1ExactIdeal.main_arg0) = m ((c.tc : Thread Cert.Linear1ExactIdeal.nD Cert.Linear1ExactIdeal.τ).loc Cert.Linear1ExactIdeal.main_arg0)
      ∧ r.2.mem ((c.tc : Thread Cert.Linear1ExactIdeal.nD Cert.Linear1ExactIdeal.τ).loc Cert.Linear1ExactIdeal.main_arg1) = m ((c.tc : Thread Cert.Linear1ExactIdeal.nD Cert.Linear1ExactIdeal.τ).loc Cert.Linear1ExactIdeal.main_arg1)
      ∧ r.2.mem ((c.tc : Thread Cert.Linear1ExactIdeal.nD Cert.Linear1ExactIdeal.τ).loc Cert.Linear1ExactIdeal.main_arg2) = m ((c.tc : Thread Cert.Linear1ExactIdeal.nD Cert.Linear1ExactIdeal.τ).loc Cert.Linear1ExactIdeal.main_arg2)
      ∧ r.2.mem ((c.tc : Thread Cert.Linear1ExactIdeal.nD Cert.Linear1ExactIdeal.τ).loc Cert.Linear1ExactIdeal.main_arg3) = m ((c.tc : Thread Cert.Linear1ExactIdeal.nD Cert.Linear1ExactIdeal.τ).loc Cert.Linear1ExactIdeal.main_arg3)
      ∧ r.2.mem ((c.tc : Thread Cert.Linear1ExactIdeal.nD Cert.Linear1ExactIdeal.τ).loc Cert.Linear1ExactIdeal.main_arg4) = m ((c.tc : Thread Cert.Linear1ExactIdeal.nD Cert.Linear1ExactIdeal.τ).loc Cert.Linear1ExactIdeal.main_arg4)
      ∧ (Cert.Post_near_exact.fn (F := Ideal) (m ((c.tc : Thread Cert.Linear1ExactIdeal.nD Cert.Linear1ExactIdeal.τ).loc Cert.Linear1ExactIdeal.main_arg0)) (m ((c.tc : Thread Cert.Linear1ExactIdeal.nD Cert.Linear1ExactIdeal.τ).loc Cert.Linear1ExactIdeal.main_arg1)) (m ((c.tc : Thread Cert.Linear1ExactIdeal.nD Cert.Linear1ExactIdeal.τ).loc Cert.Linear1ExactIdeal.main_arg2)) (m ((c.tc : Thread Cert.Linear1ExactIdeal.nD Cert.Linear1ExactIdeal.τ).loc Cert.Linear1ExactIdeal.main_arg3)) (m ((c.tc : Thread Cert.Linear1ExactIdeal.nD Cert.Linear1ExactIdeal.τ).loc Cert.Linear1ExactIdeal.main_arg4)) (r.2.mem ((c.tc : Thread Cert.Linear1ExactIdeal.nD Cert.Linear1ExactIdeal.τ).loc Cert.Linear1ExactIdeal.main_v2)) (r.2.mem ((c.tc : Thread Cert.Linear1ExactIdeal.nD Cert.Linear1ExactIdeal.τ).loc Cert.Linear1ExactIdeal.main_v5))) = (fun _ => 1#1))

def Claim : Prop :=
  ∃ (hKernel : Cert.Kernel.Facts) (hKernelIdeal : Cert.KernelIdeal.Facts) (hReferenceIdeal : Cert.ReferenceIdeal.Facts) (hLinear1 : Cert.Linear1.Facts) (hLinear1Ideal : Cert.Linear1Ideal.Facts) (hLinear1ReferenceIdeal : Cert.Linear1ReferenceIdeal.Facts) (hLinear1Exact : Cert.Linear1Exact.Facts) (hLinear1ExactIdeal : Cert.Linear1ExactIdeal.Facts) (hPre_finite : Cert.Pre_finite.Facts) (hPost_near_exact : Cert.Post_near_exact.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Linear1 (hLinear1 := hLinear1)
    ∧ quiescent_Linear1Ideal (hLinear1Ideal := hLinear1Ideal)
    ∧ quiescent_Linear1ReferenceIdeal (hLinear1ReferenceIdeal := hLinear1ReferenceIdeal)
    ∧ quiescent_Linear1Exact (hLinear1Exact := hLinear1Exact)
    ∧ quiescent_Linear1ExactIdeal (hLinear1ExactIdeal := hLinear1ExactIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Linear1_Linear1Ideal
    ∧ algebraic_Linear1Ideal_Linear1ReferenceIdeal (hLinear1Ideal := hLinear1Ideal) (hLinear1ReferenceIdeal := hLinear1ReferenceIdeal)
    ∧ preserves_Linear1Exact_Linear1ExactIdeal
    ∧ holds_Linear1ExactIdeal_near_exact (hLinear1ExactIdeal := hLinear1ExactIdeal) (hPost_near_exact := hPost_near_exact)
-- ==== Post_near_exact.lean ====
abbrev S12288x12800 : Shape := ⟨2, ![12288, 12800]⟩
abbrev S12288x128 : Shape := ⟨2, ![12288, 128]⟩
abbrev S12800x5120 : Shape := ⟨2, ![12800, 5120]⟩
abbrev S5120 : Shape := ⟨1, ![5120]⟩
abbrev S12288x5120 : Shape := ⟨2, ![12288, 5120]⟩
abbrev S_ : Shape := ⟨0, ![]⟩

class Facts : Prop where
  bcast_S_S12288x5120 : S_.BroadcastsInDim S12288x5120 (![] : Fin 0 → Fin S12288x5120.rank)

variable [Facts]

def fn {F : FTy → Type} [FloatOps F] (main_arg0 : FVec F S12288x12800 .fp8e4m3) (main_arg1 : FVec F S12288x128 .f32) (main_arg2 : FVec F S12800x5120 .fp8e4m3) (main_arg3 : FVec F S5120 .f32) (main_arg4 : FVec F S5120 .f32) (main_arg5 : FVec F S12288x5120 .f32) (main_arg6 : FVec F S12288x5120 .f32) : IVec S12288x5120 1 :=
  let main_v0 : IVec S12288x5120 1 := cmpf .oeq main_arg5 main_arg6
  let main_v1 : FVec F S12288x5120 .f32 := subf main_arg5 main_arg6
  let main_v2 : FVec F S12288x5120 .f32 := Host.absf main_v1
  let main_cst : FVec F S_ .f32 := constant S_ .f32 0x37000000#32
  let main_v3 : FVec F S12288x5120 .f32 := broadcastInDim S12288x5120 ![] bcast_S_S12288x5120 main_cst
  let main_v4 : IVec S12288x5120 1 := cmpf .ole main_v2 main_v3
  let main_v5 : IVec S12288x5120 1 := ori main_v0 main_v4
  main_v5
-- ==== Pre_finite.lean ====
abbrev S12288x5120 : Shape := ⟨2, ![12288, 5120]⟩
abbrev S5120x5120 : Shape := ⟨2, ![5120, 5120]⟩
abbrev S5120 : Shape := ⟨1, ![5120]⟩
abbrev S_ : Shape := ⟨0, ![]⟩

class Facts : Prop where
  bcast_S_S12288x5120 : S_.BroadcastsInDim S12288x5120 (![] : Fin 0 → Fin S12288x5120.rank)

variable [Facts]

def fn {F : FTy → Type} [FloatOps F] (main_arg0 : FVec F S12288x5120 .f32) (main_arg1 : FVec F S5120x5120 .fp8e4m3) (main_arg2 : FVec F S5120 .f32) (main_arg3 : FVec F S5120 .f32) : IVec S12288x5120 1 :=
  let main_v0 : FVec F S12288x5120 .f32 := Host.absf main_arg0
  let main_cst : FVec F S_ .f32 := constant S_ .f32 0x7F7FFFFF#32
  let main_v1 : FVec F S12288x5120 .f32 := broadcastInDim S12288x5120 ![] bcast_S_S12288x5120 main_cst
  let main_v2 : IVec S12288x5120 1 := cmpf .ole main_v0 main_v1
  main_v2
-- ==== Kernel.lean ====
abbrev S12288x5120 : Shape := ⟨2, ![12288, 5120]⟩
abbrev S5120x5120 : Shape := ⟨2, ![5120, 5120]⟩
abbrev S5120 : Shape := ⟨1, ![5120]⟩
abbrev S1x5120 : Shape := ⟨2, ![1, 5120]⟩
abbrev S12288x128 : Shape := ⟨2, ![12288, 128]⟩
abbrev S512x5120 : Shape := ⟨2, ![512, 5120]⟩
abbrev S5120x512 : Shape := ⟨2, ![5120, 512]⟩
abbrev S1x512 : Shape := ⟨2, ![1, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S12288x5120, .f32⟩
  | .hbm, ⟨1, _⟩ => ⟨S5120x5120, .fp8e4m3⟩
  | .hbm, ⟨2, _⟩ => ⟨S5120, .f32⟩
  | .hbm, ⟨3, _⟩ => ⟨S5120, .f32⟩
  | .hbm, ⟨4, _⟩ => ⟨S1x5120, .f32⟩
  | .hbm, ⟨5, _⟩ => ⟨S1x5120, .f32⟩
  | .hbm, ⟨6, _⟩ => ⟨S12288x5120, .bf16⟩
  | .hbm, ⟨7, _⟩ => ⟨S12288x5120, .fp8e4m3⟩
  | .hbm, ⟨8, _⟩ => ⟨S12288x128, .f32⟩
  | .local _ .vmem, ⟨0, _⟩ => ⟨S512x5120, .f32⟩
  | .local _ .vmem, ⟨1, _⟩ => ⟨S512x5120, .f32⟩
  | .local _ .vmem, ⟨2, _⟩ => ⟨S5120x512, .fp8e4m3⟩
  | .local _ .vmem, ⟨3, _⟩ => ⟨S5120x512, .fp8e4m3⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x5120, .fp8e4m3⟩
  | .local _ .vmem, ⟨11, _⟩ => ⟨S512x5120, .fp8e4m3⟩
  | .local _ .vmem, ⟨12, _⟩ => ⟨S512x128, .f32⟩
  | .local _ .vmem, ⟨13, _⟩ => ⟨S512x128, .f32⟩
  | .local _ .vmem, ⟨14, _⟩ => ⟨S512x128, .f32⟩
  | _, _ => ⟨S12288x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5120x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S12288x5120 : Shape := ⟨2, ![12288, 5120]⟩
abbrev S5120x5120 : Shape := ⟨2, ![5120, 5120]⟩
abbrev S5120 : Shape := ⟨1, ![5120]⟩
abbrev S1x5120 : Shape := ⟨2, ![1, 5120]⟩
abbrev S12288x128 : Shape := ⟨2, ![12288, 128]⟩
abbrev S12288 : Shape := ⟨1, ![12288]⟩
abbrev S12288x1 : Shape := ⟨2, ![12288, 1]⟩

abbrev nBuf : Space → Nat
  | .hbm => 9
  | .vmem => 7
  | .smem => 0
  | _ => 0

abbrev bufTy : (tb : Table) → Fin (tcTables nBuf tb) → BufTy
  | .hbm, ⟨0, _⟩ => ⟨S12288x5120, .f32⟩
  | .hbm, ⟨1, _⟩ => ⟨S5120x5120, .fp8e4m3⟩
  | .hbm, ⟨2, _⟩ => ⟨S5120, .f32⟩
  | .hbm, ⟨3, _⟩ => ⟨S5120, .f32⟩
  | .hbm, ⟨4, _⟩ => ⟨S1x5120, .f32⟩
  | .hbm, ⟨5, _⟩ => ⟨S1x5120, .f32⟩
  | .hbm, ⟨6, _⟩ => ⟨S12288x5120, .bf16⟩
  | .hbm, ⟨7, _⟩ => ⟨S12288x5120, .fp8e4m3⟩
  | .hbm, ⟨8, _⟩ => ⟨S12288x128, .f32⟩
  | .local _ .vmem, ⟨0, _⟩ => ⟨S12288x5120, .f32⟩
  | .local _ .vmem, ⟨1, _⟩ => ⟨S5120x5120, .fp8e4m3⟩
  | .local _ .vmem, ⟨2, _⟩ => ⟨S1x5120, .f32⟩
  | .local _ .vmem, ⟨3, _⟩ => ⟨S1x5120, .f32⟩
  | .local _ .vmem, ⟨4, _⟩ => ⟨S12288x5120, .bf16⟩
  | .local _ .vmem, ⟨5, _⟩ => ⟨S12288x5120, .fp8e4m3⟩
  | .local _ .vmem, ⟨6, _⟩ => ⟨S12288x128, .f32⟩
  | _, _ => ⟨S12288x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Linear1.lean ====
abbrev S12288x12800 : Shape := ⟨2, ![12288, 12800]⟩
abbrev S12288x128 : Shape := ⟨2, ![12288, 128]⟩
abbrev S12800x5120 : Shape := ⟨2, ![12800, 5120]⟩
abbrev S5120 : Shape := ⟨1, ![5120]⟩
abbrev S1x5120 : Shape := ⟨2, ![1, 5120]⟩
abbrev S12288x5120 : Shape := ⟨2, ![12288, 5120]⟩
abbrev S768x12800 : Shape := ⟨2, ![768, 12800]⟩
abbrev S768x128 : Shape := ⟨2, ![768, 128]⟩
abbrev S12800x256 : Shape := ⟨2, ![12800, 256]⟩
abbrev S1x256 : Shape := ⟨2, ![1, 256]⟩
abbrev S768x256 : Shape := ⟨2, ![768, 256]⟩
abbrev S768x1 : Shape := ⟨2, ![768, 1]⟩

abbrev nBuf : Space → Nat
  | .hbm => 8
  | .vmem => 12
  | .smem => 0
  | _ => 0

abbrev bufTy : (tb : Table) → Fin (tcTables nBuf tb) → BufTy
  | .hbm, ⟨0, _⟩ => ⟨S12288x12800, .fp8e4m3⟩
  | .hbm, ⟨1, _⟩ => ⟨S12288x128, .f32⟩
  | .hbm, ⟨2, _⟩ => ⟨S12800x5120, .fp8e4m3⟩
  | .hbm, ⟨3, _⟩ => ⟨S5120, .f32⟩
  | .hbm, ⟨4, _⟩ => ⟨S5120, .f32⟩
  | .hbm, ⟨5, _⟩ => ⟨S1x5120, .f32⟩
  | .hbm, ⟨6, _⟩ => ⟨S1x5120, .f32⟩
  | .hbm, ⟨7, _⟩ => ⟨S12288x5120, .f32⟩
  | .local _ .vmem, ⟨0, _⟩ => ⟨S768x12800, .fp8e4m3⟩
  | .local _ .vmem, ⟨1, _⟩ => ⟨S768x12800, .fp8e4m3⟩
  | .local _ .vmem, ⟨2, _⟩ => ⟨S768x128, .f32⟩
  | .local _ .vmem, ⟨3, _⟩ => ⟨S768x128, .f32⟩
  | .local _ .vmem, ⟨4, _⟩ => ⟨S12800x256, .fp8e4m3⟩
  | .local _ .vmem, ⟨5, _⟩ => ⟨S12800x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S768x256, .f32⟩
  | .local _ .vmem, ⟨11, _⟩ => ⟨S768x256, .f32⟩
  | _, _ => ⟨S12288x12800, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x12800 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S12800x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Linear1ReferenceIdeal.lean ====
abbrev S12288x12800 : Shape := ⟨2, ![12288, 12800]⟩
abbrev S12288x128 : Shape := ⟨2, ![12288, 128]⟩
abbrev S12800x5120 : Shape := ⟨2, ![12800, 5120]⟩
abbrev S5120 : Shape := ⟨1, ![5120]⟩
abbrev S1x5120 : Shape := ⟨2, ![1, 5120]⟩
abbrev S12288x5120 : Shape := ⟨2, ![12288, 5120]⟩
abbrev S12288x1 : Shape := ⟨2, ![12288, 1]⟩

abbrev nBuf : Space → Nat
  | .hbm => 8
  | .vmem => 6
  | .smem => 0
  | _ => 0

abbrev bufTy : (tb : Table) → Fin (tcTables nBuf tb) → BufTy
  | .hbm, ⟨0, _⟩ => ⟨S12288x12800, .fp8e4m3⟩
  | .hbm, ⟨1, _⟩ => ⟨S12288x128, .f32⟩
  | .hbm, ⟨2, _⟩ => ⟨S12800x5120, .fp8e4m3⟩
  | .hbm, ⟨3, _⟩ => ⟨S5120, .f32⟩
  | .hbm, ⟨4, _⟩ => ⟨S5120, .f32⟩
  | .hbm, ⟨5, _⟩ => ⟨S1x5120, .f32⟩
  | .hbm, ⟨6, _⟩ => ⟨S1x5120, .f32⟩
  | .hbm, ⟨7, _⟩ => ⟨S12288x5120, .f32⟩
  | .local _ .vmem, ⟨0, _⟩ => ⟨S12288x12800, .fp8e4m3⟩
  | .local _ .vmem, ⟨1, _⟩ => ⟨S12288x128, .f32⟩
  | .local _ .vmem, ⟨2, _⟩ => ⟨S12800x5120, .fp8e4m3⟩
  | .local _ .vmem, ⟨3, _⟩ => ⟨S1x5120, .f32⟩
  | .local _ .vmem, ⟨4, _⟩ => ⟨S1x5120, .f32⟩
  | .local _ .vmem, ⟨5, _⟩ => ⟨S12288x5120, .f32⟩
  | _, _ => ⟨S12288x12800, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x12800 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12800x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Linear1Exact.lean ====
abbrev S12288x12800 : Shape := ⟨2, ![12288, 12800]⟩
abbrev S12288x128 : Shape := ⟨2, ![12288, 128]⟩
abbrev S12800x5120 : Shape := ⟨2, ![12800, 5120]⟩
abbrev S5120 : Shape := ⟨1, ![5120]⟩
abbrev S1x5120 : Shape := ⟨2, ![1, 5120]⟩
abbrev S12288x5120 : Shape := ⟨2, ![12288, 5120]⟩
abbrev S768x12800 : Shape := ⟨2, ![768, 12800]⟩
abbrev S768x128 : Shape := ⟨2, ![768, 128]⟩
abbrev S12800x256 : Shape := ⟨2, ![12800, 256]⟩
abbrev S1x256 : Shape := ⟨2, ![1, 256]⟩
abbrev S768x256 : Shape := ⟨2, ![768, 256]⟩
abbrev S768x1 : Shape := ⟨2, ![768, 1]⟩
abbrev S12288x1 : Shape := ⟨2, ![12288, 1]⟩

abbrev nBuf : Space → Nat
  | .hbm => 11
  | .vmem => 18
  | .smem => 0
  | _ => 0

abbrev bufTy : (tb : Table) → Fin (tcTables nBuf tb) → BufTy
  | .hbm, ⟨0, _⟩ => ⟨S12288x12800, .fp8e4m3⟩
  | .hbm, ⟨1, _⟩ => ⟨S12288x128, .f32⟩
  | .hbm, ⟨2, _⟩ => ⟨S12800x5120, .fp8e4m3⟩
  | .hbm, ⟨3, _⟩ => ⟨S5120, .f32⟩
  | .hbm, ⟨4, _⟩ => ⟨S5120, .f32⟩
  | .hbm, ⟨5, _⟩ => ⟨S1x5120, .f32⟩
  | .hbm, ⟨6, _⟩ => ⟨S1x5120, .f32⟩
  | .hbm, ⟨7, _⟩ => ⟨S12288x5120, .f32⟩
  | .hbm, ⟨8, _⟩ => ⟨S1x5120, .f32⟩
  | .hbm, ⟨9, _⟩ => ⟨S1x5120, .f32⟩
  | .hbm, ⟨10, _⟩ => ⟨S12288x5120, .f32⟩
  | .local _ .vmem, ⟨0, _⟩ => ⟨S768x12800, .fp8e4m3⟩
  | .local _ .vmem, ⟨1, _⟩ => ⟨S768x12800, .fp8e4m3⟩
  | .local _ .vmem, ⟨2, _⟩ => ⟨S768x128, .f32⟩
  | .local _ .vmem, ⟨3, _⟩ => ⟨S768x128, .f32⟩
  | .local _ .vmem, ⟨4, _⟩ => ⟨S12800x256, .fp8e4m3⟩
  | .local _ .vmem, ⟨5, _⟩ => ⟨S12800x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S768x256, .f32⟩
  | .local _ .vmem, ⟨11, _⟩ => ⟨S768x256, .f32⟩
  | .local _ .vmem, ⟨12, _⟩ => ⟨S12288x12800, .fp8e4m3⟩
  | .local _ .vmem, ⟨13, _⟩ => ⟨S12288x128, .f32⟩
  | .local _ .vmem, ⟨14, _⟩ => ⟨S12800x5120, .fp8e4m3⟩
  | .local _ .vmem, ⟨15, _⟩ => ⟨S1x5120, .f32⟩
  | .local _ .vmem, ⟨16, _⟩ => ⟨S1x5120, .f32⟩
  | .local _ .vmem, ⟨17, _⟩ => ⟨S12288x5120, .f32⟩
  | _, _ => ⟨S12288x12800, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨2, ![16, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x12800 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S12800x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := .none

abbrev stage1_0 : Fin 1 → Memref sig .tc .vmem S12288x12800 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S12288x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S12800x5120 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x5120 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x5120 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S12288x5120 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== Proof.PrintedPoint.lean ====
module

public import proofs.«01_k».proof.Proof.Gen.Kernel.Frame
public import proofs.«01_k».proof.Proof.Gen.Kernel.Skeleton

@[expose] public section

set_option maxRecDepth 16384

/-! The kernel at a grid point: which branch the point takes, its staging memrefs, and the scratch it keeps. -/

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 10) — by arithmetic of the point. -/
theorem hcond0_0 : ∀ t : Fin cfg0.N, cond0_0 (grid0.coords t) ↔ t.val % 10 = 0 :=
  (fun t => by
    have ht : t.val < 240 := Nat.lt_of_lt_of_eq t.isLt N_0
    have e0 : (grid0.coords t 0).val = t.val / 10 % 24 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What a quantising point leaves, as functions of its block of activations -/

/-- The first 60 statements' results and the two the rest of the branch reads: whether the scale is 1, and the exponent. -/
def isOne (x : Vec F S512x5120 .f32) : IVec S512x128 1 := k0_pay11 (k0_pay6 x) (k0_pay7 x) (k0_pay8 x) k0_pay9
def expo (x : Vec F S512x5120 .f32) : IVec S512x128 32 := k0_pay12 (k0_pay6 x) (k0_pay7 x) (k0_pay8 x) k0_pay9
/-- The scales, a row's on all 128 lanes (the third result's block); -/
def scales (x : Vec F S512x5120 .f32) : Vec F S512x128 .f32 := k0_pay2 (isOne x) (expo x)
/-- the same in the scratch; -/
def scratch (x : Vec F S512x5120 .f32) : Vec F S512x128 .f32 := k0_pay3 (isOne x) (expo x)
/-- the codes (the second result's block); -/
def codes (x : Vec F S512x5120 .f32) : Vec F S512x5120 .fp8e4m3 := k0_pay4 (isOne x) (expo x) x
/-- and the product's block, from the codes `q` and the scales' lanes `s` of the row. -/
def prod (q : Vec F S512x5120 .fp8e4m3) (s : Vec F S512x128 .f32) (w : Vec F S5120x512 .fp8e4m3) (ws b : Vec F S1x512 .f32) : FVec F S512x512 .bf16 :=
  k0_pay5 q w (fun j => s ((Rect.unit (s := S512x128) ![0, 0] S512x1.size inb_S512x128_S512x1_0_0).emb j)) ws b

end Cert.Kernel.Run

end
-- ==== Proof.PrintedRunA.lean ====
module

public import proofs.«01_k».proof.Proof.PrintedPoint
public import Idealize.ShloMosaic.Lib.VecWindow

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S512x5120 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x5120 .fp8e4m3) (harg7 : arg7.IsWhole) (arg8 : Memref sig .tc .vmem S512x128 .f32) (harg8 : arg8.IsWhole) (arg9 : Memref sig .tc .vmem S512x128 .f32) (harg9 : arg9.IsWhole) (hc0 : cond0_0 i)
    (x0 : Vec F S512x5120 .f32) (x1 : Vec F S5120x512 .fp8e4m3) (x2 : Vec F S1x512 .f32) (x3 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (prod (codes x0) (scratch x0) x1 x2 x3) ∗ owns (c : Thread nD τ) arg7 fullShare (codes x0) ∗ owns (c : Thread nD τ) arg8 fullShare (scales x0) ∗ owns (c : Thread nD τ) arg9 fullShare (scratch x0)) -∗ K ⟨⟩))
          ⊢ wp frame (wpE (defs₀ (F := F)) Variants.none c none) E (cc0_quant_linear2 i arg2 harg2 arg3 harg3 arg4 harg4 arg5 harg5 arg6 harg6 arg7 harg7 arg8 harg8 arg9 harg9) K := by
    intro E K
    simp only [cc0_quant_linear2_eq_skeleton]; unfold cc0_quant_linear2_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    have h0 := View.readAt_full arg2.view (harg2.unread x0) inb_S512x5120_S512x5120_0_0
    have h1 := View.readAt_full arg3.view (harg3.unread x1) inb_S5120x512_S5120x512_0_0
    have h2 := View.readAt_full arg4.view (harg4.unread x2) inb_S1x512_S1x512_0_0
    have h3 := View.readAt_full arg5.view (harg5.unread x3) inb_S1x512_S1x512_0_0
    rw [harg2.read_unread] at h0; rw [harg3.read_unread] at h1; rw [harg4.read_unread] at h2; rw [harg5.read_unread] at h3
    have e3 : runA.sl.r_3 c arg2 harg2 x0 = isOne x0 := by
      unfold runA.sl.r_3 runA.sl.r runA.sl.r_1 runA.sl.r_2; rw [h0]; rfl
    have e4 : runA.sl.r_4 c arg2 harg2 x0 = expo x0 := by
      unfold runA.sl.r_4 runA.sl.r runA.sl.r_1 runA.sl.r_2; rw [h0]; rfl
    have eq : runA.sl.H5_1 c arg2 harg2 x0
        = [⟨Rect.unit (s := S512x5120) ![0, 0] S512x5120.size inb_S512x5120_S512x5120_0_0, codes x0⟩] := by
      unfold runA.sl.H5_1; rw [e3, e4]
      exact congrArg (fun y => [(⟨Rect.unit (s := S512x5120) ![0, 0] S512x5120.size inb_S512x5120_S512x5120_0_0, k0_pay4 (isOne x0) (expo x0) y⟩ : View.Piece (Elt F) S512x5120 .fp8e4m3)]) h0
    have es : runA.sl.HS0_1 c arg2 harg2 x0
        = [⟨Rect.unit (s := S512x128) ![0, 0] S512x128.size inb_S512x128_S512x128_0_0, scratch x0⟩] := by
      unfold runA.sl.HS0_1; rw [e3, e4]; rfl
    have e3' : runA.sl.v3 c arg2 harg2 arg7 x0 = codes x0 := by
      unfold runA.sl.v3; rw [eq]
      exact View.readCov_full arg7.view inb_S512x5120_S512x5120_0_0 inb_S512x5120_S512x5120_0_0 (codes x0) []
    have e7 : runA.sl.v7 c arg2 harg2 arg9 x0
        = fun j => scratch x0 ((Rect.unit (s := S512x128) ![0, 0] S512x1.size inb_S512x128_S512x1_0_0).emb j) := by
      unfold runA.sl.v7; rw [es]
      funext j
      exact congrFun (View.read_writes_full arg9.view arg9.view.junk inb_S512x128_S512x128_0_0 (scratch x0) []) ((Rect.unit (s := S512x128) ![0, 0] S512x1.size inb_S512x128_S512x1_0_0).emb j)
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      refine (View.read_writes_full arg6.view f4 inb_S512x512_S512x512_0_0 _ []).trans ?_
      rw [e3', e7]
      exact congr (congr (congrArg (fun w => k0_pay5 (codes x0) w (fun j => scratch x0 ((Rect.unit (s := S512x128) ![0, 0] S512x1.size inb_S512x128_S512x1_0_0).emb j))) h1) h2) h3
    isplitl [H5]
    · iexists _; isplitr; swap; · iexact H5
      ipureintro; rw [eq]
      exact View.read_writes_full arg7.view f5 inb_S512x5120_S512x5120_0_0 _ []
    isplitl [H6]
    · iexists _; isplitr; swap; · iexact H6
      ipureintro; rw [e3, e4]
      exact View.read_writes_full arg8.view f6 inb_S512x128_S512x128_0_0 (scales x0) []
    iexists _; isplitr; swap; · iexact HS0
    ipureintro; rw [es]
    exact View.read_writes_full arg9.view fs0 inb_S512x128_S512x128_0_0 _ []

end Cert.Kernel.Run

end
-- ==== Proof.PrintedRunB.lean ====
module

public import proofs.«01_k».proof.Proof.PrintedPoint
public import Idealize.ShloMosaic.Lib.VecWindow

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S512x5120 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x5120 .fp8e4m3) (harg7 : arg7.IsWhole) (arg8 : Memref sig .tc .vmem S512x128 .f32) (harg8 : arg8.IsWhole) (arg9 : Memref sig .tc .vmem S512x128 .f32) (harg9 : arg9.IsWhole) (hc0 : ¬cond0_0 i)
    (x0 : Vec F S512x5120 .f32) (x1 : Vec F S5120x512 .fp8e4m3) (x2 : Vec F S1x512 .f32) (x3 : Vec F S1x512 .f32) (q : Vec F S512x5120 .fp8e4m3) (g s : Vec F S512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare q ∗ owns (c : Thread nD τ) arg8 fullShare g ∗ owns (c : Thread nD τ) arg9 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (prod q s x1 x2 x3) ∗ owns (c : Thread nD τ) arg7 fullShare q ∗ owns (c : Thread nD τ) arg8 fullShare g ∗ owns (c : Thread nD τ) arg9 fullShare s) -∗ K ⟨⟩))
          ⊢ wp frame (wpE (defs₀ (F := F)) Variants.none c none) E (cc0_quant_linear2 i arg2 harg2 arg3 harg3 arg4 harg4 arg5 harg5 arg6 harg6 arg7 harg7 arg8 harg8 arg9 harg9) K := by
    intro E K
    simp only [cc0_quant_linear2_eq_skeleton]; unfold cc0_quant_linear2_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
    sl_exec (disch := first | sl_exact hc0)
    sl_step
    iapply Hk
    have h5 := View.readAt_full arg7.view (harg7.unread q) inb_S512x5120_S512x5120_0_0
    have h1 := View.readAt_full arg3.view (harg3.unread x1) inb_S5120x512_S5120x512_0_0
    have h2 := View.readAt_full arg4.view (harg4.unread x2) inb_S1x512_S1x512_0_0
    have h3 := View.readAt_full arg5.view (harg5.unread x3) inb_S1x512_S1x512_0_0
    rw [harg7.read_unread] at h5; rw [harg3.read_unread] at h1; rw [harg4.read_unread] at h2; rw [harg5.read_unread] at h3
    have hs : View.readAt (Elt F) arg9.view (Rect.unit (s := S512x128) ![0, 0] S512x1.size inb_S512x128_S512x1_0_0).toLoadRect (harg9.unread s)
        = fun j => s ((Rect.unit (s := S512x128) ![0, 0] S512x1.size inb_S512x128_S512x1_0_0).emb j) := by
      funext j; exact congrFun hfs0 _
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; rw [h5, h1, h2, h3, hs]
      exact View.read_writes_full arg6.view f4 inb_S512x512_S512x512_0_0 _ []
    isplitl [H5]
    · iexists _; isplitr; · ipureintro; exact hf5
      iexact H5
    isplitl [H6]
    · iexists _; isplitr; · ipureintro; exact hf6
      iexact H6
    iexists _; isplitr; swap; · iexact HS0
    ipureintro; exact hfs0

end Cert.Kernel.Run

end
-- ==== Proof.PrintedRun.lean ====
module

public import proofs.«01_k».proof.Proof.PrintedRunA
public import proofs.«01_k».proof.Proof.PrintedRunB
public import Idealize.ShloMosaic.Lib.Claim

@[expose] public section

set_option maxRecDepth 16384

/-! The kernel's run over the whole grid: what every buffer holds point by point, the body at a generic point, the frame. -/

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The invariant before point `k`: at the start of a row of blocks the scratch at anything; within the row at the
    row's scales, which point `k - 1` left or kept. -/
def Phi (c : Dev nD) (k : ℕ) (h : k ≤ cfg0.N) : sProp 𝕄 :=
  if h0 : k % 10 = 0 then Pipeline.ΦA spec0 c
  else iprop(owns (c : Thread nD τ) scM0_0 fullShare (scratch (iblk m c 0 ⟨k - 1, by omega⟩)) ∗ (∃ r, prngReg c r))

/-- The proof data: the inputs at their blocks, the codes and scales of the point's row of blocks, and the product's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prod (codes (iblk m c 0 t)) (scratch (iblk m c 0 t)) (iblk m c 1 t) (iblk m c 2 t) (iblk m c 3 t)
    | ⟨5, _⟩ => codes (iblk m c 0 t)
    | ⟨6, _⟩ => scales (iblk m c 0 t)
  Φ k := Phi m c k.val (Nat.le_of_lt_succ k.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = prod (codes (iblk m c 0 t)) (scratch (iblk m c 0 t)) (iblk m c 1 t) (iblk m c 2 t) (iblk m c 3 t) := by dsimp only [dats]
theorem after0_5 (c : Dev nD) (t : Fin cfg0.N) : (dats m 0 c).after 5 t = codes (iblk m c 0 t) := by dsimp only [dats]
theorem after0_6 (c : Dev nD) (t : Fin cfg0.N) : (dats m 0 c).after 6 t = scales (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Within a row of blocks -/

/-- The point before `t`. -/
abbrev prev (t : Fin cfg0.N) : Fin cfg0.N := ⟨t.val - 1, Nat.lt_of_le_of_lt (Nat.sub_le _ _) t.isLt⟩

/-- Within a row the activations' block does not move. -/
theorem iblk0_prev (c : Dev nD) (t : Fin cfg0.N) (h : t.val % 10 ≠ 0) : iblk m c 0 (prev t) = iblk m c 0 t := by
  have hf : (cfg0.win 0).fetch t = false := Bool.eq_false_iff.mpr fun hf => h ((fetch0_0 t).mp hf)
  rw [← before0_0 m c t (iblk m c 0 t), (dats m 0 c).before_unfetched_in 0 rfl t hf (fun _ => rfl)]
  unfold Dat.kept
  dsimp only [dats]
  rfl

/-- Windows 5 and 6 are idle exactly off the points that quantise. -/
theorem idle5 (t : Fin cfg0.N) : cfg0.idle 5 (grid0.coords t) = !decide (t.val % 10 = 0) := by
  have hc := hcond0_0 t
  show (!(k0_cond1 (grid0.coords t) == 1#1)) = _
  by_cases h : t.val % 10 = 0
  · rw [show k0_cond1 (grid0.coords t) = 1#1 from hc.mpr h]; simp [h]
  · have : k0_cond1 (grid0.coords t) ≠ 1#1 := fun e => h (hc.mp e)
    simp [h, this]
theorem idle6 (t : Fin cfg0.N) : cfg0.idle 6 (grid0.coords t) = !decide (t.val % 10 = 0) := idle5 t

/-- Past the quantising point of a row, window 5's buffer holds the row's codes; -/
theorem before0_5 (c : Dev nD) : ∀ (n : ℕ) (t : Fin cfg0.N), t.val = n → t.val % 10 ≠ 0 → ∀ d,
    (dats m 0 c).before 5 t d = codes (iblk m c 0 t) := by
  intro n
  induction n with
  | zero => intro t ht h; rw [ht] at h; exact absurd rfl h
  | succ n ih =>
    intro t ht h d
    have hfl : (cfg0.win 5).flush (prev t) = false := Bool.eq_false_iff.mpr fun hf => by
      have : (t.val - 1) % 10 = 9 := (flush0_5 (prev t)).mp hf
      omega
    rw [(dats m 0 c).before_of_pos 5 t (by omega) ((cfg0.win 5).fetch_out rfl t), hfl, if_neg Bool.false_ne_true,
      ← iblk0_prev m c t h]
    unfold Dat.left
    by_cases hp : (prev t).val % 10 = 0
    · rw [idle5 (prev t), decide_eq_true hp]
      dsimp only [Bool.not_true]
      unfold Dat.kept
      rw [after0_5]; rfl
    · rw [idle5 (prev t), decide_eq_false hp]
      dsimp only [Bool.not_false]
      exact ih (prev t) (by show t.val - 1 = n; omega) hp d
/-- and window 6's its scales. -/
theorem before0_6 (c : Dev nD) : ∀ (n : ℕ) (t : Fin cfg0.N), t.val = n → t.val % 10 ≠ 0 → ∀ d,
    (dats m 0 c).before 6 t d = scales (iblk m c 0 t) := by
  intro n
  induction n with
  | zero => intro t ht h; rw [ht] at h; exact absurd rfl h
  | succ n ih =>
    intro t ht h d
    have hfl : (cfg0.win 6).flush (prev t) = false := Bool.eq_false_iff.mpr fun hf => by
      have : (t.val - 1) % 10 = 9 := (flush0_6 (prev t)).mp hf
      omega
    rw [(dats m 0 c).before_of_pos 6 t (by omega) ((cfg0.win 6).fetch_out rfl t), hfl, if_neg Bool.false_ne_true,
      ← iblk0_prev m c t h]
    unfold Dat.left
    by_cases hp : (prev t).val % 10 = 0
    · rw [idle6 (prev t), decide_eq_true hp]
      dsimp only [Bool.not_true]
      unfold Dat.kept
      rw [after0_6]; rfl
    · rw [idle6 (prev t), decide_eq_false hp]
      dsimp only [Bool.not_false]
      exact ih (prev t) (by show t.val - 1 = n; omega) hp d

/-- Handing back the codes and the scales: at a quantising point as stored, later in the row as found. -/
theorem leaves5 (c : Dev nD) (t : Fin cfg0.N) :
    owns (c : Thread nD τ) (ms0_5 t) fullShare (codes (iblk m c 0 t)) ⊢ (dats m 0 c).leavesExact 5 t := by
  unfold Dat.leavesExact
  rw [idle5 t]
  by_cases h : t.val % 10 = 0
  · rw [decide_eq_true h]; dsimp only [Bool.not_true]; rw [after0_5]; exact .rfl
  · rw [decide_eq_false h, Bool.not_false]
    cases (cfg0.win 5).flush t
    · dsimp only
      iintro H; iexists (codes (iblk m c 0 t)); rw [before0_5 m c t.val t rfl h]; iexact H
    · exact .rfl
theorem leaves6 (c : Dev nD) (t : Fin cfg0.N) :
    owns (c : Thread nD τ) (ms0_6 t) fullShare (scales (iblk m c 0 t)) ⊢ (dats m 0 c).leavesExact 6 t := by
  unfold Dat.leavesExact
  rw [idle6 t]
  by_cases h : t.val % 10 = 0
  · rw [decide_eq_true h]; dsimp only [Bool.not_true]; rw [after0_6]; exact .rfl
  · rw [decide_eq_false h, Bool.not_false]
    cases (cfg0.win 6).flush t
    · dsimp only
      iintro H; iexists (scales (iblk m c 0 t)); rw [before0_6 m c t.val t rfl h]; iexact H
    · exact .rfl

/-- The invariant after a point, from the row's scales in the scratch. -/
theorem Phi_succ (c : Dev nD) (t : Fin cfg0.N) :
    iprop(owns (c : Thread nD τ) scM0_0 fullShare (scratch (iblk m c 0 t)) ∗ (∃ r, prngReg c r)) ⊢ (dats m 0 c).Φ t.succ := by
  show _ ⊢ Phi m c (t.val + 1) t.isLt
  unfold Phi
  split
  · rw [PhiA0_eq]
    iintro ⟨H, Hg⟩
    isplitl [H]
    · iexists _; iexact H
    iexact Hg
  · exact .rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  have hin : (dats m 0 c).Φ t.castSucc = Phi m c t.val (Nat.le_of_lt t.isLt) := rfl
  rw [hin]
  by_cases h0 : t.val % 10 = 0
  · rw [show Phi m c t.val (Nat.le_of_lt t.isLt) = Pipeline.ΦA spec0 c from dif_pos h0, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · iapply (Phi_succ m c t)
      isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t); iexact H5
    iapply (leaves6 m c t); iexact H6
  · have e : Phi m c t.val (Nat.le_of_lt t.isLt)
        = iprop(owns (c : Thread nD τ) scM0_0 fullShare (scratch (iblk m c 0 t)) ∗ (∃ r, prngReg c r)) := by
      rw [← iblk0_prev m c t h0]; exact dif_neg h0
    rw [e]
    simp only [before0_5 m c t.val t rfl h0, before0_6 m c t.val t rfl h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ (fun h => h0 ((hcond0_0 t).mp h)) (iblk m c 0 t) (iblk m c 1 t) (iblk m c 2 t) (iblk m c 3 t) (codes (iblk m c 0 t)) (scales (iblk m c 0 t)) (scratch (iblk m c 0 t))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, H4, H5, H6, HS0⟩
    isplitl [HS0 Hg]
    · iapply (Phi_succ m c t)
      isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t); iexact H5
    iapply (leaves6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant's ends. -/
theorem Phi_first (c : Dev nD) : (dats m 0 c).Φ 0 = Pipeline.ΦA spec0 c := by
  show Phi m c 0 (Nat.zero_le _) = _
  exact dif_pos rfl
theorem Phi_last (c : Dev nD) : (dats m 0 c).Φ (Fin.last cfg0.N) = Pipeline.ΦA spec0 c := by
  show Phi m c cfg0.N (Nat.le_refl _) = _
  exact dif_pos (by rw [show cfg0.N = 240 from N_0])

set_option backward.isDefEq.respectTransparency.types false in
/-- The launch: the pipeline's arrays end at what the write-backs left, every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Entails.of_eq (Phi_first m c).symm) (hout := fun c => Entails.of_eq (Phi_last m c))

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.Point.lean ====
module

public import proofs.«01_k».proof.Proof.Gen.KernelIdeal.Frame
public import proofs.«01_k».proof.Proof.Gen.KernelIdeal.Skeleton

@[expose] public section

set_option maxRecDepth 16384

/-! The kernel at a grid point: which branch the point takes, its staging memrefs, and the scratch it keeps. -/

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 10) — by arithmetic of the point. -/
theorem hcond0_0 : ∀ t : Fin cfg0.N, cond0_0 (grid0.coords t) ↔ t.val % 10 = 0 :=
  (fun t => by
    have ht : t.val < 240 := Nat.lt_of_lt_of_eq t.isLt N_0
    have e0 : (grid0.coords t 0).val = t.val / 10 % 24 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What a quantising point leaves, as functions of its block of activations -/

/-- The first 60 statements' results and the two the rest of the branch reads: whether the scale is 1, and the exponent. -/
def isOne (x : Vec F S512x5120 .f32) : IVec S512x128 1 := k0_pay11 (k0_pay6 x) (k0_pay7 x) (k0_pay8 x) k0_pay9
def expo (x : Vec F S512x5120 .f32) : IVec S512x128 32 := k0_pay12 (k0_pay6 x) (k0_pay7 x) (k0_pay8 x) k0_pay9
/-- The scales, a row's on all 128 lanes (the third result's block); -/
def scales (x : Vec F S512x5120 .f32) : Vec F S512x128 .f32 := k0_pay2 (isOne x) (expo x)
/-- the same in the scratch; -/
def scratch (x : Vec F S512x5120 .f32) : Vec F S512x128 .f32 := k0_pay3 (isOne x) (expo x)
/-- the codes (the second result's block); -/
def codes (x : Vec F S512x5120 .f32) : Vec F S512x5120 .fp8e4m3 := k0_pay4 (isOne x) (expo x) x
/-- and the product's block, from the codes `q` and the scales' lanes `s` of the row. -/
def prod (q : Vec F S512x5120 .fp8e4m3) (s : Vec F S512x128 .f32) (w : Vec F S5120x512 .fp8e4m3) (ws b : Vec F S1x512 .f32) : FVec F S512x512 .bf16 :=
  k0_pay5 q w (fun j => s ((Rect.unit (s := S512x128) ![0, 0] S512x1.size inb_S512x128_S512x1_0_0).emb j)) ws b

end Cert.KernelIdeal.Run

end
-- ==== Proof.Search.lean ====
module

public import proofs.«01_k».proof.Proof.Point

@[expose] public section

set_option maxRecDepth 16384

/-! The kernel's binary search over the exponent field, element by element: whatever the floats are. -/

noncomputable section

namespace Cert.KernelIdeal.Read

open Idealize.ShloMosaic
open Cert.KernelIdeal.Gen Cert.KernelIdeal.Run

variable {F : FTy → Type} [FloatOps F]

/-- One step of the search on vectors. -/
def stepV (x : FVec F S512x128 .f32) (b : BitVec 32) (f : IVec S512x128 32) : IVec S512x128 32 :=
  select (cmpf .oge x (bitcastToFloat .f32 (shli (addi f (broadcast S512x128 b)) (broadcast S512x128 23#32)))) (addi f (broadcast S512x128 b)) f

/-- One step of the search on an element. -/
def step (x : F .f32) (b f : BitVec 32) : BitVec 32 :=
  Scalar.select (FloatOps.cmpf .oge x (FloatOps.ofBits .f32 (IntOp.shli .vector (IntOp.addi f b) 23#32))) (IntOp.addi f b) f

theorem stepV_apply (x : FVec F S512x128 .f32) (b : BitVec 32) (f : IVec S512x128 32) (j : S512x128.Idx) : stepV x b f j = step (x j) b (f j) := rfl

/-- The whole search on an element. -/
def field (x : F .f32) : BitVec 32 :=
  step x 1#32 (step x 2#32 (step x 4#32 (step x 8#32 (step x 16#32 (step x 32#32 (step x 64#32 (step x 128#32 0#32)))))))

theorem pay7_eq (x : Vec F S512x5120 .f32) :
    k0_pay7 x = stepV (k0_pay6 x) 32#32 (stepV (k0_pay6 x) 64#32 (stepV (k0_pay6 x) 128#32 (broadcast S512x128 0#32))) := by
  unfold k0_pay7 stepV
  rfl

theorem pay8_eq (x : Vec F S512x5120 .f32) :
    select (k0_pay8 x) (addi (k0_pay7 x) k0_pay9) (k0_pay7 x) = stepV (k0_pay6 x) 16#32 (k0_pay7 x) := by
  unfold k0_pay8 k0_pay9 stepV
  rfl

theorem pay10_eq (a : FVec F S512x128 .f32) (f : IVec S512x128 32) (b : IVec S512x128 1) (k : IVec S512x128 32) :
    k0_pay10 a f b k = stepV a 1#32 (stepV a 2#32 (stepV a 4#32 (stepV a 8#32 (select b (addi f k) f)))) := by
  unfold k0_pay10 stepV
  rfl

theorem field_apply (x : Vec F S512x5120 .f32) (j : S512x128.Idx) :
    k0_pay10 (k0_pay6 x) (k0_pay7 x) (k0_pay8 x) k0_pay9 j = field (k0_pay6 x j) := by
  rw [pay10_eq, pay8_eq, pay7_eq]
  simp only [stepV_apply]
  unfold field
  rfl

/-- The exponent: 0 where the field is all zeros or all ones. -/
def expoOf (f : BitVec 32) : BitVec 32 :=
  Scalar.select (IntOp.ori (IntOp.cmpi .eq f 0#32) (IntOp.cmpi .eq f 255#32)) 0#32 (IntOp.subi f 126#32)

theorem pay1_apply (x : Vec F S512x5120 .f32) (j : S512x128.Idx) :
    k0_pay1 (isOne x) (expo x) j = expoOf (field (k0_pay6 x j)) := by
  rw [← field_apply]
  unfold k0_pay1 isOne expo k0_pay11 k0_pay12
  generalize k0_pay10 (k0_pay6 x) (k0_pay7 x) (k0_pay8 x) k0_pay9 = f
  rfl

theorem scales_read (x : Vec F S512x5120 .f32) (j : S512x128.Idx) :
    scales x j = FloatOps.ofBits .f32 (IntOp.shli .vector (IntOp.addi (expoOf (field (k0_pay6 x j))) 127#32) 23#32) := by
  rw [← pay1_apply]
  unfold scales k0_pay2
  generalize k0_pay1 (isOne x) (expo x) = f
  rfl

end Cert.KernelIdeal.Read

end
-- ==== Proof.Exponent.lean ====
module

public import Idealize.ShloMosaic.PureOps.Ideal.Laws

@[expose] public section

/-! The exponent of a number, found twice: by the kernel's binary search over the exponent field of a float, and as
    the floor of the base-2 logarithm. Everything is over the extended reals, one element at a time. -/

noncomputable section

namespace Cert.Exponent

open Idealize.ShloMosaic

/-- The floor of the base-2 logarithm of a positive real. -/
def lg (r : ℝ) : ℤ := ⌊Real.log r / Real.log 2⌋

theorem le_lg {r : ℝ} (hr : 0 < r) (k : ℤ) : k ≤ lg r ↔ (2 : ℝ) ^ k ≤ r := by
  have h2 : 0 < Real.log 2 := Real.log_pos (by norm_num)
  rw [lg, Int.le_floor, le_div_iff₀ h2, ← Real.log_zpow, Real.log_le_log_iff (by positivity) hr]

/-- The float whose exponent field is `f`, all other bits zero. -/
def pow2 (f : BitVec 32) : EReal := FloatOps.ofBits (F := Ideal) .f32 (IntOp.shli .vector f 23#32)

/-- One step of the search: keep the bit `b` if `x` is at least the float with that field. -/
def step (x : EReal) (b f : BitVec 32) : BitVec 32 :=
  Scalar.select (FloatOps.cmpf (F := Ideal) (φ := .f32) .oge x (pow2 (IntOp.addi f b))) (IntOp.addi f b) f

/-- The whole search, from the highest bit of the field to the lowest. -/
def field (x : EReal) : BitVec 32 :=
  step x 1#32 (step x 2#32 (step x 4#32 (step x 8#32 (step x 16#32 (step x 32#32 (step x 64#32 (step x 128#32 0#32)))))))

/-- The kernel's exponent: 0 at the fields of zero and of infinity, else one more than the field's unbiased value. -/
def expo (x : EReal) : BitVec 32 :=
  Scalar.select (IntOp.ori (IntOp.cmpi .eq (field x) 0#32) (IntOp.cmpi .eq (field x) 255#32)) 0#32
    (IntOp.subi (field x) 126#32)

/-- The kernel's scale and its inverse, as floats made from exponent fields. -/
def scale (x : EReal) : EReal := pow2 (IntOp.addi (expo x) 127#32)
def inv (x : EReal) : EReal := pow2 (IntOp.subi 127#32 (expo x))

/-- The float with field `n`, `1 ≤ n ≤ 254`, is `2 ^ (n - 127)`. -/
theorem pow2_ofNat (n : ℕ) (h1 : 1 ≤ n) (h2 : n ≤ 254) : pow2 (BitVec.ofNat 32 n) = (((2 : ℝ) ^ ((n : ℤ) - 127) : ℝ) : EReal) := by
  have e : ∀ n : Fin 256, (BitVec.ofNat 32 n.val <<< 23#32).extractLsb' 31 1 = 0#1
      ∧ ((BitVec.ofNat 32 n.val <<< 23#32).extractLsb' 23 8).toNat = n.val
      ∧ ((BitVec.ofNat 32 n.val <<< 23#32).extractLsb' 0 23).toNat = 0 := by decide +kernel
  obtain ⟨ea, eb, ec⟩ := e ⟨n, by omega⟩
  have hs : IntOp.shli .vector (BitVec.ofNat 32 n) 23#32 = BitVec.ofNat 32 n <<< 23#32 := if_pos (by decide)
  show Ideal.ieee 8 23 (IntOp.shli .vector (BitVec.ofNat 32 n) 23#32) = _
  rw [hs]
  unfold Ideal.ieee
  simp only [ea, eb, ec]
  rw [if_neg (by omega), if_neg (by omega)]
  rw [EReal.coe_eq_coe_iff]
  have h2 : ((2 : ℝ) ^ 23 : ℝ) * (2 : ℝ) ^ ((n : ℤ) - 127 - 23) = (2 : ℝ) ^ ((n : ℤ) - 127) := by
    have h3 : (2 : ℝ) ^ 23 = (2 : ℝ) ^ (23 : ℤ) := by norm_num
    have h4 : (23 : ℤ) + ((n : ℤ) - 127 - 23) = (n : ℤ) - 127 := by ring
    rw [h3, ← zpow_add₀ (by norm_num), h4]
  have h5 : ((2 ^ 23 + 0 : ℕ) : ℝ) = (2 : ℝ) ^ 23 := by norm_num
  have h6 : (if ((0#1 == 1#1) : Bool) = true then (-1 : ℝ) else 1) = 1 := if_neg (by decide)
  have h7 : ((n : ℤ) - (2 ^ (8 - 1) - 1) - (23 : ℕ)) = (n : ℤ) - 127 - 23 := by norm_num
  rw [h5, h6, h7, one_mul, h2]

/-- The float with field 255 is infinity. -/
theorem pow2_255 : pow2 (BitVec.ofNat 32 255) = ⊤ := by
  have e : (BitVec.ofNat 32 255 <<< 23#32).extractLsb' 31 1 = 0#1
      ∧ ((BitVec.ofNat 32 255 <<< 23#32).extractLsb' 23 8).toNat = 255
      ∧ ((BitVec.ofNat 32 255 <<< 23#32).extractLsb' 0 23).toNat = 0 := by decide +kernel
  obtain ⟨ea, eb, ec⟩ := e
  have hs : IntOp.shli .vector (BitVec.ofNat 32 255) 23#32 = BitVec.ofNat 32 255 <<< 23#32 := if_pos (by decide)
  show Ideal.ieee 8 23 (IntOp.shli .vector (BitVec.ofNat 32 255) 23#32) = _
  rw [hs]
  unfold Ideal.ieee
  simp only [ea, eb, ec]
  norm_num

/-- A step halves the interval the field lies in. -/
theorem step_spec {x : EReal} {n : ℕ} (hp : ∀ k : ℕ, 1 ≤ k → k ≤ 255 → (pow2 (BitVec.ofNat 32 k) ≤ x ↔ k ≤ n))
    (b : ℕ) (hb : 1 ≤ b) (f : BitVec 32)
    (h : ∃ a, f = BitVec.ofNat 32 a ∧ a ≤ n ∧ n < a + 2 * b ∧ a + 2 * b ≤ 256) :
    ∃ a, step x (BitVec.ofNat 32 b) f = BitVec.ofNat 32 a ∧ a ≤ n ∧ n < a + b ∧ a + b ≤ 256 := by
  obtain ⟨a, rfl, h1, h2, h3⟩ := h
  have hadd : IntOp.addi (BitVec.ofNat 32 a) (BitVec.ofNat 32 b) = BitVec.ofNat 32 (a + b) := (BitVec.ofNat_add a b).symm
  have hc : FloatOps.cmpf (F := Ideal) (φ := .f32) .oge x (pow2 (BitVec.ofNat 32 (a + b))) = BitVec.ofBool (decide (a + b ≤ n)) := by
    show BitVec.ofBool (decide (pow2 (BitVec.ofNat 32 (a + b)) ≤ x)) = _
    rw [decide_eq_decide.mpr (hp (a + b) (by omega) (by omega))]
  unfold step
  rw [hadd, hc]
  by_cases hn : a + b ≤ n
  · exact ⟨a + b, by rw [decide_eq_true hn]; rfl, hn, by omega, by omega⟩
  · exact ⟨a, by rw [decide_eq_false hn]; rfl, h1, by omega, by omega⟩

/-- So the search finds the greatest field whose float is at most `x`. -/
theorem field_eq {x : EReal} {n : ℕ} (hn : n ≤ 255)
    (hp : ∀ k : ℕ, 1 ≤ k → k ≤ 255 → (pow2 (BitVec.ofNat 32 k) ≤ x ↔ k ≤ n)) : field x = BitVec.ofNat 32 n := by
  have h0 := step_spec hp 128 (by omega) 0#32 ⟨0, rfl, by omega, by omega, by omega⟩
  have h1 := step_spec hp 64 (by omega) _ h0
  have h2 := step_spec hp 32 (by omega) _ h1
  have h3 := step_spec hp 16 (by omega) _ h2
  have h4 := step_spec hp 8 (by omega) _ h3
  have h5 := step_spec hp 4 (by omega) _ h4
  have h6 := step_spec hp 2 (by omega) _ h5
  obtain ⟨a, e, ha, hb, _⟩ := step_spec hp 1 (by omega) _ h6
  have : a = n := by omega
  subst this
  exact e

/-- The reference's exponent of `x`: 0 below the smallest normal, else one more than the floor of the logarithm. -/
def flush (x : EReal) : EReal :=
  Scalar.select (FloatOps.cmpf (F := Ideal) (φ := .f32) .olt x (Scalar.ofBits (F := Ideal) .f32 0x00800000#32))
    (Scalar.ofBits (F := Ideal) .f32 0x00000000#32) x
def refExpo (x : EReal) : EReal :=
  Scalar.select (FloatOps.cmpf (F := Ideal) (φ := .f32) .oeq (flush x) (Scalar.ofBits (F := Ideal) .f32 0x00000000#32))
    (Scalar.ofBits (F := Ideal) .f32 0x00000000#32)
    (FloatOps.addf (F := Ideal) (φ := .f32)
      (FloatOps.floor (F := Ideal) (φ := .f32) (FloatOps.divf (F := Ideal) (φ := .f32)
        (FloatOps.log (F := Ideal) (φ := .f32) (flush x))
        (FloatOps.log (F := Ideal) (φ := .f32) (Scalar.ofBits (F := Ideal) .f32 0x40000000#32))))
      (Scalar.ofBits (F := Ideal) .f32 0x3F800000#32))
/-- The reference's scale and its inverse. -/
def refScale (x : EReal) : EReal := FloatOps.exp2 (F := Ideal) (φ := .f32) (refExpo x)
def refInv (x : EReal) : EReal :=
  FloatOps.exp2 (F := Ideal) (φ := .f32)
    (FloatOps.subf (F := Ideal) (φ := .f32) (Scalar.ofBits (F := Ideal) .f32 0x00000000#32) (refExpo x))

/-- The smallest normal float. -/
theorem ofBits_tiny : Scalar.ofBits (F := Ideal) .f32 0x00800000#32 = (((2 : ℝ) ^ (-126 : ℤ) : ℝ) : EReal) := by
  have := pow2_ofNat 1 (by norm_num) (by norm_num)
  have hs : IntOp.shli .vector (BitVec.ofNat 32 1) 23#32 = 0x00800000#32 := by decide
  unfold pow2 at this
  rw [hs] at this
  exact this.trans (by norm_num)

theorem ofBits_two : Scalar.ofBits (F := Ideal) .f32 0x40000000#32 = ((2 : ℝ) : EReal) := by
  have := pow2_ofNat 128 (by norm_num) (by norm_num)
  have hs : IntOp.shli .vector (BitVec.ofNat 32 128) 23#32 = 0x40000000#32 := by decide
  unfold pow2 at this
  rw [hs] at this
  exact this.trans (by norm_num)

theorem ofBits_one : Scalar.ofBits (F := Ideal) .f32 0x3F800000#32 = ((1 : ℝ) : EReal) := by
  have := pow2_ofNat 127 (by norm_num) (by norm_num)
  have hs : IntOp.shli .vector (BitVec.ofNat 32 127) 23#32 = 0x3F800000#32 := by decide
  unfold pow2 at this
  rw [hs] at this
  exact this.trans (by norm_num)

theorem ofBits_zero : Scalar.ofBits (F := Ideal) .f32 0x00000000#32 = ((0 : ℝ) : EReal) := Ideal.ofBits_zero_f32

/-- Below the smallest normal both exponents are 0: the scales are 1. -/
theorem field_small {r : ℝ} (h : r < (2 : ℝ) ^ (-126 : ℤ)) : field (r : EReal) = BitVec.ofNat 32 0 := by
  refine field_eq (by omega) fun k h1 h2 => ⟨fun hk => ?_, fun hk => by omega⟩
  exfalso
  rcases Nat.lt_or_ge k 255 with h3 | h3
  · rw [pow2_ofNat k h1 (by omega), EReal.coe_le_coe_iff] at hk
    have : (2 : ℝ) ^ (-126 : ℤ) ≤ (2 : ℝ) ^ ((k : ℤ) - 127) := zpow_le_zpow_right₀ (by norm_num) (by omega)
    linarith
  · obtain rfl : k = 255 := by omega
    rw [pow2_255] at hk
    exact absurd (top_le_iff.mp hk) (EReal.coe_ne_top r)

/-- In the normal range the field is the logarithm's floor plus 127. -/
theorem field_normal {r : ℝ} (hr : 0 < r) (n : ℕ) (hn : n ≤ 254) (hl : lg r = (n : ℤ) - 127) :
    field (r : EReal) = BitVec.ofNat 32 n := by
  refine field_eq (by omega) fun k h1 h2 => ?_
  rcases Nat.lt_or_ge k 255 with h3 | h3
  · rw [pow2_ofNat k h1 (by omega), EReal.coe_le_coe_iff]
    rw [← le_lg hr, hl]
    omega
  · obtain rfl : k = 255 := by omega
    rw [pow2_255]
    exact ⟨fun hk => absurd (top_le_iff.mp hk) (EReal.coe_ne_top r), fun hk => by omega⟩

theorem exp2_coe (r : ℝ) : FloatOps.exp2 (F := Ideal) (φ := .f32) (r : EReal) = (((2 : ℝ) ^ r : ℝ) : EReal) := rfl

theorem expo_small : ∀ x : EReal, field x = BitVec.ofNat 32 0 → expo x = 0#32 := by
  intro x h; unfold expo; rw [h]; decide

theorem expo_normal (x : EReal) (n : ℕ) (h1 : 1 ≤ n) (h2 : n ≤ 254) (h : field x = BitVec.ofNat 32 n) :
    expo x = BitVec.ofNat 32 n - 126#32 := by
  unfold expo; rw [h]
  have := (by decide +kernel : ∀ n : Fin 255, 1 ≤ n.val →
    Scalar.select (IntOp.ori (IntOp.cmpi .eq (BitVec.ofNat 32 n.val) 0#32) (IntOp.cmpi .eq (BitVec.ofNat 32 n.val) 255#32)) 0#32
      (IntOp.subi (BitVec.ofNat 32 n.val) 126#32) = BitVec.ofNat 32 n.val - 126#32)
  exact this ⟨n, by omega⟩ h1

/-- Below the smallest normal the reference's exponent is 0. -/
theorem refExpo_small {r : ℝ} (h : r < (2 : ℝ) ^ (-126 : ℤ)) : refExpo (r : EReal) = ((0 : ℝ) : EReal) := by
  have hf : flush (r : EReal) = ((0 : ℝ) : EReal) := by
    unfold flush
    rw [ofBits_tiny, ofBits_zero]
    show Scalar.select (BitVec.ofBool (decide ((r : EReal) < (((2 : ℝ) ^ (-126 : ℤ) : ℝ) : EReal)))) _ _ = _
    rw [decide_eq_true (EReal.coe_lt_coe_iff.mpr h)]; rfl
  unfold refExpo
  rw [hf, ofBits_zero]
  show Scalar.select (BitVec.ofBool (decide (((0 : ℝ) : EReal) = ((0 : ℝ) : EReal)))) _ _ = _
  rw [decide_eq_true rfl]; rfl

/-- In the normal range it is the logarithm's floor plus one. -/
theorem refExpo_normal {r : ℝ} (h : (2 : ℝ) ^ (-126 : ℤ) ≤ r) : refExpo (r : EReal) = (((lg r + 1 : ℤ) : ℝ) : EReal) := by
  have hr : 0 < r := lt_of_lt_of_le (by positivity) h
  have hf : flush (r : EReal) = (r : EReal) := by
    unfold flush
    rw [ofBits_tiny, ofBits_zero]
    show Scalar.select (BitVec.ofBool (decide ((r : EReal) < (((2 : ℝ) ^ (-126 : ℤ) : ℝ) : EReal)))) _ _ = _
    rw [decide_eq_false (by rw [EReal.coe_lt_coe_iff]; exact not_lt.mpr h)]; rfl
  have hlog : ∀ s : ℝ, 0 < s → FloatOps.log (F := Ideal) (φ := .f32) (s : EReal) = ((Real.log s : ℝ) : EReal) := fun s hs =>
    if_neg (not_le.mpr hs)
  have hl2 : Real.log 2 ≠ 0 := (Real.log_pos (by norm_num)).ne'
  have hdiv : FloatOps.divf (F := Ideal) (φ := .f32) ((Real.log r : ℝ) : EReal) ((Real.log 2 : ℝ) : EReal)
      = ((Real.log r / Real.log 2 : ℝ) : EReal) := by
    show Ideal.div _ _ = _
    unfold Ideal.div
    rw [if_neg (by exact_mod_cast hl2), ← EReal.coe_inv, ← EReal.coe_mul]
    rfl
  unfold refExpo
  rw [hf, ofBits_zero, ofBits_two, ofBits_one, hlog r hr, hlog 2 (by norm_num), hdiv]
  show Scalar.select (BitVec.ofBool (decide ((r : EReal) = ((0 : ℝ) : EReal)))) _ _ = _
  rw [decide_eq_false (by rw [EReal.coe_eq_coe_iff]; exact hr.ne')]
  show (((lg r : ℤ) : ℝ) : EReal) + ((1 : ℝ) : EReal) = _
  rw [← EReal.coe_add]
  push_cast
  rfl

/-- THE SCALES AGREE, and so do their inverses, at every number between 0 and `2 ^ 126`. -/
theorem scale_eq {r : ℝ} (h0 : r < (2 : ℝ) ^ (126 : ℤ)) : scale (r : EReal) = refScale (r : EReal) ∧ inv (r : EReal) = refInv (r : EReal) := by
  rcases lt_or_ge r ((2 : ℝ) ^ (-126 : ℤ)) with h | h
  · have he := expo_small _ (field_small h)
    have h1 := pow2_ofNat 127 (by norm_num) (by norm_num)
    unfold scale inv refScale refInv
    rw [he, refExpo_small h, ofBits_zero]
    refine ⟨h1.trans ?_, h1.trans ?_⟩
    · rw [exp2_coe]; norm_num
    · show _ = FloatOps.exp2 (F := Ideal) (φ := .f32) (((0 : ℝ) : EReal) - ((0 : ℝ) : EReal))
      rw [← EReal.coe_sub, exp2_coe]; norm_num
  · have hr : 0 < r := lt_of_lt_of_le (by positivity) h
    have hl1 : (-126 : ℤ) ≤ lg r := (le_lg hr _).mpr h
    have hl2 : lg r < 126 := not_le.mp fun hc => absurd ((le_lg hr _).mp hc) (not_le.mpr h0)
    obtain ⟨n, hn⟩ := Int.eq_ofNat_of_zero_le (a := lg r + 127) (by omega)
    have hL : lg r = (n : ℤ) - 127 := by omega
    have he := expo_normal _ n (by omega) (by omega) (field_normal hr n (by omega) hL)
    have eS := (by decide +kernel : ∀ n : Fin 253, IntOp.addi (BitVec.ofNat 32 n.val - 126#32) 127#32 = BitVec.ofNat 32 (n.val + 1)) ⟨n, by omega⟩
    have eI := (by decide +kernel : ∀ n : Fin 253, IntOp.subi 127#32 (BitVec.ofNat 32 n.val - 126#32) = BitVec.ofNat 32 (253 - n.val)) ⟨n, by omega⟩
    unfold scale inv refScale refInv
    rw [he, refExpo_normal h, ofBits_zero, eS, eI, pow2_ofNat _ (by omega) (by omega), pow2_ofNat _ (by omega) (by omega)]
    refine ⟨?_, ?_⟩
    · rw [exp2_coe, Real.rpow_intCast]; congr 2; rw [hL]; push_cast; ring
    · show _ = FloatOps.exp2 (F := Ideal) (φ := .f32) (((0 : ℝ) : EReal) - (((lg r + 1 : ℤ) : ℝ) : EReal))
      rw [← EReal.coe_sub, exp2_coe, zero_sub, ← Int.cast_neg, Real.rpow_intCast]; congr 2; rw [hL]; push_cast [show n ≤ 253 by omega]; ring

end Cert.Exponent

end
-- ==== Proof.Meaning.lean ====
module

public import proofs.«01_k».proof.Proof.Exponent
public import Idealize.ShloMosaic.Lib.ValueIdxCore
public import Idealize.ShloMosaic.Lib.MatmulPlain

@[expose] public section

/-! What the call computes, as functions of whole arrays over the extended reals: a row's scale from its greatest
    magnitude, the codes, and the rescaled product. Both programs are read as these. -/

noncomputable section

namespace Cert.Meaning

open Idealize.ShloMosaic Idealize.ShloMosaic.ValueIdx
open scoped BigOperators

/-- The float nearest 1/448. -/
def c448 : EReal := Scalar.ofBits (F := Ideal) .f32 0x3B124925#32

/-- The greatest magnitude among `N` numbers. -/
def amax {N : ℕ} (v : Fin N → EReal) : EReal :=
  (Finset.univ : Finset (Fin N)).fold max (FloatOps.ofBits (F := Ideal) .f32 0xFF800000#32) fun k => FloatOps.absf (F := Ideal) (φ := .f32) (v k)

/-- The amount a row's scale is made from. -/
def amount {N : ℕ} (v : Fin N → EReal) : EReal := amax v * c448

/-- A code: the activation times the inverse scale, clipped to the format's range. -/
def code (x i : EReal) : EReal :=
  min (Scalar.ofBits (F := Ideal) .f32 0x43E00000#32) (max (Scalar.ofBits (F := Ideal) .f32 0xC3E00000#32) (x * i))

/-- Row `r` of the activations. -/
abbrev row {M N : ℕ} (g : (⟨2, ![M, N]⟩ : Shape).Idx → EReal) (r : Fin M) : Fin N → EReal := fun k => g (ix2 r k)

/-- The scales, on `L` lanes. -/
def gs {M N L : ℕ} (g : (⟨2, ![M, N]⟩ : Shape).Idx → EReal) : (⟨2, ![M, L]⟩ : Shape).Idx → EReal :=
  fun y => Exponent.refScale (amount (row g (y 0)))

/-- The codes. -/
def gc {M N : ℕ} (g : (⟨2, ![M, N]⟩ : Shape).Idx → EReal) : (⟨2, ![M, N]⟩ : Shape).Idx → EReal :=
  fun y => code (g y) (Exponent.refInv (amount (row g (y 0))))

/-- The rescaled product of the codes with the weight codes, plus the bias. -/
def out {M N K : ℕ} (g : (⟨2, ![M, N]⟩ : Shape).Idx → EReal) (w : (⟨2, ![N, K]⟩ : Shape).Idx → EReal)
    (ws b : (⟨2, ![1, K]⟩ : Shape).Idx → EReal) : (⟨2, ![M, K]⟩ : Shape).Idx → EReal :=
  fun y => ((∑ k : Fin N, gc g (ix2 (y 0) k) * w (ix2 k (y 1))) * Exponent.refScale (amount (row g (y 0)))) * ws (ix2 0 (y 1)) + b (ix2 0 (y 1))

/-- A reduction by maximum over the columns of the magnitudes is, at row `r`, the row's greatest magnitude. -/
theorem rowMax {M N : ℕ} (x : FVec Ideal ⟨2, ![M, N]⟩ .f32) (h : Shape.Reduces ⟨2, ![M, N]⟩ [1] ⟨1, ![M]⟩)
    (hφ : FKind.Formats .f32) (hacc : (0xFF800000#32 : BitVec 32) = FKind.maximumf.neutral .f32 hφ) (r : Fin M) :
    multiReduction .maximumf [1] ⟨1, ![M]⟩ (absf x) 0xFF800000#32 h hφ hacc (ix1 r) = amax (row x r) := by
  rw [Ideal.multiReduction_maximumf_single]
  unfold amax
  refine congrArg (fun f => Finset.fold max _ f (Finset.univ : Finset (Fin N))) (funext fun k => ?_)
  refine congrArg (fun j => FloatOps.absf (x j)) (funext fun a => Fin.ext ?_)
  match a with
  | ⟨0, _⟩ => rfl
  | ⟨1, _⟩ => rfl

/-! ## The amount is small -/

/-- The greatest finite float. -/
def fmax : EReal := Scalar.ofBits (F := Ideal) .f32 0x7F7FFFFF#32

theorem fmax_eq : fmax = (((2 ^ 24 - 1) * 2 ^ 104 : ℝ) : EReal) := by
  have e : ((0x7F7FFFFF#32).extractLsb' 31 1 = 0#1) ∧ ((0x7F7FFFFF#32).extractLsb' 23 8).toNat = 254
      ∧ ((0x7F7FFFFF#32).extractLsb' 0 23).toNat = 2 ^ 23 - 1 := by decide +kernel
  obtain ⟨ea, eb, ec⟩ := e
  show Ideal.ieee 8 23 0x7F7FFFFF#32 = _
  unfold Ideal.ieee
  simp only [ea, eb, ec]
  rw [if_neg (by decide), if_neg (by decide), EReal.coe_eq_coe_iff]
  have h6 : (if ((0#1 == 1#1) : Bool) = true then (-1 : ℝ) else 1) = 1 := if_neg (by decide)
  have h7 : (((254 : ℕ) : ℤ) - (2 ^ (8 - 1) - 1) - (23 : ℕ)) = (104 : ℕ) := by norm_num
  rw [h6, h7, zpow_natCast]
  norm_num

theorem c448_eq : c448 = (((2 ^ 23 + 1198373) * 2 ^ (-32 : ℤ) : ℝ) : EReal) := by
  have e : ((0x3B124925#32).extractLsb' 31 1 = 0#1) ∧ ((0x3B124925#32).extractLsb' 23 8).toNat = 118
      ∧ ((0x3B124925#32).extractLsb' 0 23).toNat = 1198373 := by decide +kernel
  obtain ⟨ea, eb, ec⟩ := e
  show Ideal.ieee 8 23 0x3B124925#32 = _
  unfold Ideal.ieee
  simp only [ea, eb, ec]
  rw [if_neg (by decide), if_neg (by decide), EReal.coe_eq_coe_iff]
  have h6 : (if ((0#1 == 1#1) : Bool) = true then (-1 : ℝ) else 1) = 1 := if_neg (by decide)
  have h7 : (((118 : ℕ) : ℤ) - (2 ^ (8 - 1) - 1) - (23 : ℕ)) = (-32 : ℤ) := by norm_num
  rw [h6, h7]
  norm_num

/-- With every activation's magnitude at most the greatest finite float, the amount is a real below `2 ^ 126`. -/
theorem amount_real {N : ℕ} (hN : 0 < N) (v : Fin N → EReal) (h : ∀ k, FloatOps.absf (F := Ideal) (φ := .f32) (v k) ≤ fmax) :
    ∃ r : ℝ, amount v = (r : EReal) ∧ r < (2 : ℝ) ^ (126 : ℤ) := by
  have hneg : FloatOps.ofBits (F := Ideal) .f32 0xFF800000#32 = (⊥ : EReal) := by
    have e : ((0xFF800000#32).extractLsb' 31 1 = 1#1) ∧ ((0xFF800000#32).extractLsb' 23 8).toNat = 255
      ∧ ((0xFF800000#32).extractLsb' 0 23).toNat = 0 := by decide +kernel
    obtain ⟨ea, eb, ec⟩ := e
    show Ideal.ieee 8 23 0xFF800000#32 = _
    unfold Ideal.ieee
    simp only [ea, eb, ec]
    rw [if_pos (by decide), if_pos trivial, if_pos (by decide)]
  have hle : amax v ≤ fmax := by
    unfold amax
    rw [hneg, Finset.fold_max_le]
    exact ⟨bot_le, fun k _ => h k⟩
  have hge : 0 ≤ amax v := by
    unfold amax
    rw [hneg, Finset.le_fold_max]
    refine .inr ⟨⟨0, hN⟩, Finset.mem_univ _, ?_⟩
    show 0 ≤ max (v ⟨0, hN⟩) (-(v ⟨0, hN⟩))
    rcases le_total 0 (v ⟨0, hN⟩) with h0 | h0
    · exact le_max_of_le_left h0
    · exact le_max_of_le_right (by rw [EReal.le_neg]; simpa using h0)
  rw [fmax_eq] at hle
  lift amax v to ℝ using ⟨ne_top_of_le_ne_top (EReal.coe_ne_top _) hle, ne_bot_of_le_ne_bot EReal.zero_ne_bot hge⟩ with a ha
  rw [EReal.coe_le_coe_iff] at hle
  refine ⟨a * ((2 ^ 23 + 1198373) * 2 ^ (-32 : ℤ)), ?_, ?_⟩
  · unfold amount
    rw [← ha, c448_eq, ← EReal.coe_mul]
  · have : a * ((2 ^ 23 + 1198373) * 2 ^ (-32 : ℤ)) ≤ ((2 ^ 24 - 1) * 2 ^ 104 : ℝ) * ((2 ^ 23 + 1198373) * 2 ^ (-32 : ℤ)) :=
      mul_le_mul_of_nonneg_right hle (by positivity)
    refine lt_of_le_of_lt this ?_
    norm_num

/-- So the kernel's scale and inverse of a row are the reference's. -/
theorem scale_amount {N : ℕ} (hN : 0 < N) (v : Fin N → EReal) (h : ∀ k, FloatOps.absf (F := Ideal) (φ := .f32) (v k) ≤ fmax) :
    Exponent.scale (amount v) = Exponent.refScale (amount v) ∧ Exponent.inv (amount v) = Exponent.refInv (amount v) := by
  obtain ⟨r, hr, hlt⟩ := amount_real hN v h
  rw [hr]
  exact Exponent.scale_eq hlt

end Cert.Meaning

end
-- ==== Proof.KernelRead.lean ====
module

public import proofs.«01_k».proof.Proof.Search
public import proofs.«01_k».proof.Proof.Meaning
public import Idealize.ShloMosaic.Lib.Pipeline.ValueKit.Geometry

@[expose] public section

set_option maxRecDepth 16384

/-! The kernel's payloads read at an index, over the extended reals. -/

noncomputable section

namespace Cert.KernelIdeal.Read

open Idealize.ShloMosaic Idealize.ShloMosaic.ValueIdx
open Cert.KernelIdeal.Gen Cert.KernelIdeal.Run Cert.Meaning
open scoped BigOperators

/-- A column of row values, broadcast over 128 lanes. -/
theorem lanes_apply (v : FVec Ideal S512 .f32) (r : Fin 512) (l : Fin 128) :
    broadcastTo S512x128 (shapeCast S512x1 (shapeCast S512x1 v shapeCasts_S512_S512x1) shapeCasts_S512x1_S512x1) broadcasts_S512x1_S512x128 (ix2 r l) = v (ix1 r) := by
  refine (broadcastTo_apply _ _ (ix2 r l) (ix2 r (0 : Fin 1)) (fun a => match a with | ⟨0, _⟩ => rfl | ⟨1, _⟩ => rfl)).trans ?_
  rw [shapeCast_self]
  exact (shapeCast_apply _ _ (ix2 r (0 : Fin 1)) (ix1 r) rfl)

/-- A product of vectors at an index. -/
theorem mulf_read {s : Shape} (a b : FVec Ideal s .f32) (j : s.Idx) (u v : EReal) (ha : a j = u) (hb : b j = v) : mulf a b j = u * v := by
  rw [← ha, ← hb]; rfl
theorem addf_read {s : Shape} (a b : FVec Ideal s .f32) (j : s.Idx) (u v : EReal) (ha : a j = u) (hb : b j = v) : addf a b j = u + v := by
  rw [← ha, ← hb]; rfl
/-- Changes of format are the identity. -/
theorem truncf_read {s : Shape} (ψ : FTy) (a : FVec Ideal s .f32) (h : ψ.bits < FTy.f32.bits) (j : s.Idx) (u : EReal) (ha : a j = u) : truncf ψ a h j = u := ha

/-- The amounts the scales are made from, each row's on all 128 lanes. -/
theorem pay6_apply (x : Vec Ideal S512x5120 .f32) (r : Fin 512) (l : Fin 128) : k0_pay6 (F := Ideal) x (ix2 r l) = amount (row x r) := by
  have e0 : multiReduction (F := Ideal) .maximumf [1] S512 (absf x) 0xFF800000#32 reduces_S512x5120_S512 (.inl rfl) rfl (ix1 r) = amax (row x r) :=
    rowMax x _ _ _ r
  unfold k0_pay6 amount
  exact mulf_read _ _ _ _ _ ((lanes_apply _ r l).trans e0) rfl

/-- The search over the extended reals is the one whose result is known. -/
theorem field_ideal (x : EReal) : field (F := Ideal) x = Exponent.field x := by
  have h : ∀ b f, step (F := Ideal) x b f = Exponent.step x b f := fun _ _ => rfl
  unfold field Exponent.field
  simp only [h]

theorem expo_apply (x : Vec Ideal S512x5120 .f32) (j : S512x128.Idx) :
    k0_pay1 (isOne (F := Ideal) x) (expo (F := Ideal) x) j = Exponent.expo (k0_pay6 (F := Ideal) x j) := by
  rw [pay1_apply, field_ideal]
  unfold expoOf Exponent.expo
  rfl

/-- A scale, at its row. -/
theorem scales_apply (x : Vec Ideal S512x5120 .f32) (r : Fin 512) (l : Fin 128) :
    scales (F := Ideal) x (ix2 r l) = Exponent.scale (amount (row x r)) := by
  rw [scales_read, ← pay1_apply, expo_apply, pay6_apply]
  unfold Exponent.scale Exponent.pow2
  rfl

theorem scratch_eq (x : Vec Ideal S512x5120 .f32) : scratch (F := Ideal) x = scales (F := Ideal) x := by
  unfold scratch k0_pay3
  exact shapeCast_self _ _

/-- Clipping to the range of the codes, at an index. -/
theorem clip_read (a : FVec Ideal S512x5120 .f32) (j : S512x5120.Idx) (u v : EReal) (ha : a j = u * v) :
    truncf .fp8e4m3 (minimumf (broadcast S512x5120 (Scalar.ofBits (F := Ideal) .f32 0x43E00000#32))
      (maximumf (broadcast S512x5120 (Scalar.ofBits (F := Ideal) .f32 0xC3E00000#32)) a)) bitsLt_fp8e4m3_f32 j = code u v := by
  unfold code
  rw [← ha]; rfl

/-- A code. -/
theorem codes_apply (x : Vec Ideal S512x5120 .f32) (r : Fin 512) (k : Fin 5120) :
    codes (F := Ideal) x (ix2 r k) = code (x (ix2 r k)) (Exponent.inv (amount (row x r))) := by
  unfold codes k0_pay4
  refine clip_read _ _ _ _ ?_
  refine mulf_read _ _ _ _ _ rfl ?_
  refine (broadcastTo_apply _ _ (ix2 r k) (ix2 r (0 : Fin 1)) (fun a => match a with | ⟨0, _⟩ => rfl | ⟨1, _⟩ => rfl)).trans ?_
  refine (extractStridedSlice_apply _ _ _ (ix2 r (0 : Fin 1)) (ix2 r (0 : Fin 128)) (fun a => match a with | ⟨0, _⟩ => (Nat.zero_add _).symm | ⟨1, _⟩ => rfl)).trans ?_
  have e : k0_pay1 (isOne (F := Ideal) x) (expo (F := Ideal) x) (ix2 r 0) = Exponent.expo (amount (row x r)) := by
    rw [expo_apply, pay6_apply]
  exact congrArg (fun v => Exponent.pow2 (IntOp.subi 127#32 v)) e

/-- The rescaled product with its bias. -/
theorem prod_apply (q : Vec Ideal S512x5120 .fp8e4m3) (s : Vec Ideal S512x128 .f32) (w : Vec Ideal S5120x512 .fp8e4m3) (ws b : Vec Ideal S1x512 .f32)
    (r k : Fin 512) :
    prod (F := Ideal) q s w ws b (ix2 r k)
      = ((∑ i : Fin 5120, q (ix2 r i) * w (ix2 i k)) * s (ix2 r 0)) * ws (ix2 0 k) + b (ix2 0 k) := by
  have e1 : (matmul (φ₁ := .fp8e4m3) (φ₂ := .fp8e4m3) dot_S512x5120_S5120x512_S512x512_1_0_0_1_n_n none
      (shapeCast S512x5120 q shapeCasts_S512x5120_S512x5120) w (constant S512x512 .f32 0x00000000#32) : FVec Ideal S512x512 .f32) (ix2 r k) = ∑ i : Fin 5120, q (ix2 r i) * w (ix2 i k) := by
    rw [shapeCast_self]
    refine (Ideal.matmul_plain_apply (M := 512) (K := 5120) (N := 512) none q w _ r k).trans ?_
    show Ideal.ofBits .f32 0x00000000#32 + _ = _
    rw [Ideal.ofBits_zero_f32, zero_add]
  have e2 : broadcastTo S512x512 (fun j => s ((Rect.unit (s := S512x128) ![0,0] S512x1.size inb_S512x128_S512x1_0_0).emb j)) broadcasts_S512x1_S512x512 (ix2 r k)
      = s (ix2 r 0) := by
    refine (broadcastTo_apply _ _ (ix2 r k) (ix2 r (0 : Fin 1)) (fun a => match a with | ⟨0, _⟩ => rfl | ⟨1, _⟩ => rfl)).trans ?_
    refine congrArg s (funext fun a => Fin.ext ?_)
    rw [ValueKit.rect_emb_unit_val]
    match a with
    | ⟨0, _⟩ => exact Nat.zero_add _
    | ⟨1, _⟩ => rfl
  have e3 : ∀ v : Vec Ideal S1x512 .f32, broadcastTo S512x512 (shapeCast S1x512 v shapeCasts_S1x512_S1x512) broadcasts_S1x512_S512x512 (ix2 r k) = v (ix2 0 k) := fun v => by
    rw [shapeCast_self]
    exact broadcastTo_apply _ _ (ix2 r k) (ix2 (0 : Fin 1) k) (fun a => match a with | ⟨0, _⟩ => rfl | ⟨1, _⟩ => rfl)
  unfold prod k0_pay5
  exact truncf_read _ _ _ _ _ (addf_read _ _ _ _ _ (mulf_read _ _ _ _ _ (mulf_read _ _ _ _ _ e1 e2) (e3 ws)) (e3 b))

end Cert.KernelIdeal.Read

end
-- ==== Proof.Gelu.lean ====
module

public import Idealize.ShloMosaic.PureOps.Ideal.Laws
public import Idealize.ShloMosaic.Lib.ValueIdx
public import proofs.«01_k».proof.Proof.Exponent

@[expose] public section

/-! The first linear layer's activation as the kernel computes it (the tail of the normal distribution by two polynomials
    in Horner form and one reciprocal) and as the reference writes it (the same tail by powers and one quotient), and that
    the two are one function of an extended real. -/

noncomputable section

namespace Cert.Gelu

open Idealize.ShloMosaic

section Scalars

variable {F : FTy → Type} [FloatOps F]

/-- A literal. -/
abbrev lit (b : BitVec 32) : F .f32 := Scalar.ofBits .f32 b

/-- The size of a number, cut at 13.5. -/
def size (v : F .f32) : F .f32 := FloatOps.minimumf (FloatOps.absf v) (lit 0x41580000#32)

/-- One step of Horner's scheme: `a * u + b`. -/
def next (a u b : F .f32) : F .f32 := FloatOps.addf (FloatOps.mulf a u) b

/-- The kernel's numerator and denominator, in Horner form. -/
def numK (u : F .f32) : F .f32 :=
  next (next (next (next (lit 0x34763134#32) u (lit 0x3C6C824D#32)) u (lit 0x3DDD0D5F#32)) u (lit 0x3EAE547C#32)) u (lit 0x3EFFFFFE#32)
def denK (u : F .f32) : F .f32 :=
  next (next (next (next (lit 0x3D14525E#32) u (lit 0x3E8A3E58#32)) u (lit 0x3F6558F0#32)) u (lit 0x3FBD4B16#32)) u (lit 0x3F800000#32)

/-- The kernel's product of a size and the tail there. -/
def dropK (u : F .f32) : F .f32 :=
  FloatOps.mulf
    (FloatOps.mulf (FloatOps.mulf u (FloatOps.exp2 (FloatOps.mulf (FloatOps.mulf u u) (lit 0xBF38AA3B#32)))) (numK u))
    (FloatOps.divf (lit 0x3F800000#32) (denK u))

/-- The kernel's activation. -/
def geluK (v : F .f32) : F .f32 := FloatOps.subf (FloatOps.maximumf v (lit 0x00000000#32)) (dropK (size v))

/-- The reference's powers. -/
def sq (u : F .f32) : F .f32 := FloatOps.mulf u u
def cube (u : F .f32) : F .f32 := FloatOps.mulf u (sq u)
def fourth (u : F .f32) : F .f32 := FloatOps.mulf (sq u) (sq u)

/-- A polynomial of degree four, as a sum of its terms. -/
def poly (a0 a1 a2 a3 a4 u : F .f32) : F .f32 :=
  FloatOps.addf (FloatOps.addf (FloatOps.addf (FloatOps.addf a0 (FloatOps.mulf a1 u)) (FloatOps.mulf a2 (sq u))) (FloatOps.mulf a3 (cube u)))
    (FloatOps.mulf a4 (fourth u))

/-- The reference's numerator and denominator. -/
def numR (u : F .f32) : F .f32 := poly (lit 0x3EFFFFFE#32) (lit 0x3EAE547C#32) (lit 0x3DDD0D5F#32) (lit 0x3C6C824D#32) (lit 0x34763134#32) u
def denR (u : F .f32) : F .f32 := poly (lit 0x3F800000#32) (lit 0x3FBD4B16#32) (lit 0x3F6558F0#32) (lit 0x3E8A3E58#32) (lit 0x3D14525E#32) u

/-- The reference's tail. -/
def tailR (u : F .f32) : F .f32 :=
  FloatOps.mulf (FloatOps.exp2 (FloatOps.mulf (lit 0xBF38AA3B#32) (sq u))) (FloatOps.divf (numR u) (denR u))

/-- The reference's activation. -/
def geluR (v : F .f32) : F .f32 :=
  FloatOps.subf (Scalar.select (FloatOps.cmpf .ogt v (lit 0x00000000#32)) v (lit 0x00000000#32)) (FloatOps.mulf (size v) (tailR (size v)))

end Scalars

/-! ## The two are equal over the extended reals -/

/-- A normal float of positive sign is a positive real. -/
theorem lit_pos (b : BitVec 32) (hs : b.extractLsb' 31 1 = 0#1) (h0 : (b.extractLsb' 23 8).toNat ≠ 0)
    (h1 : (b.extractLsb' 23 8).toNat ≠ 255) : ∃ r : ℝ, 0 < r ∧ (lit (F := Ideal) b : EReal) = (r : EReal) := by
  refine ⟨((2 ^ 23 + (b.extractLsb' 0 23).toNat : Nat) : ℝ) * (2 : ℝ) ^ (((b.extractLsb' 23 8).toNat : Int) - 127 - 23), by positivity, ?_⟩
  show Ideal.ieee 8 23 b = _
  unfold Ideal.ieee
  simp only [Nat.reduceAdd, Nat.reducePow, Nat.reduceSub, hs]
  rw [if_neg h1, if_neg h0]
  norm_num

/-- A normal float of negative sign is a real. -/
theorem lit_real (b : BitVec 32) (h0 : (b.extractLsb' 23 8).toNat ≠ 0)
    (h1 : (b.extractLsb' 23 8).toNat ≠ 255) : ∃ r : ℝ, (lit (F := Ideal) b : EReal) = (r : EReal) := by
  refine ⟨(if (b.extractLsb' 31 1 == 1#1) then (-1 : ℝ) else 1) * ((2 ^ 23 + (b.extractLsb' 0 23).toNat : Nat) : ℝ)
    * (2 : ℝ) ^ (((b.extractLsb' 23 8).toNat : Int) - 127 - 23), ?_⟩
  show Ideal.ieee 8 23 b = _
  unfold Ideal.ieee
  simp only [Nat.reduceAdd, Nat.reducePow, Nat.reduceSub]
  rw [if_neg h1, if_neg h0]
  norm_num

/-- A size is a real number, and no less than zero. -/
theorem size_real (v : EReal) : ∃ u : ℝ, 0 ≤ u ∧ size (F := Ideal) v = (u : EReal) := by
  obtain ⟨c, hc, e⟩ := lit_pos 0x41580000#32 (by decide) (by decide) (by decide)
  unfold size
  rw [e]
  show ∃ u : ℝ, 0 ≤ u ∧ min (max v (-v)) (c : EReal) = (u : EReal)
  induction v with
  | bot => exact ⟨c, hc.le, by simp⟩
  | top => exact ⟨c, hc.le, by simp⟩
  | coe r => exact ⟨min (max r (-r)) c, le_min (le_max_iff.mpr (by rcases le_total 0 r with h | h <;> [left; right] <;> linarith)) hc.le, by push_cast; rfl⟩

theorem mulf_coe (a b : ℝ) : FloatOps.mulf (F := Ideal) (φ := .f32) (a : EReal) (b : EReal) = ((a * b : ℝ) : EReal) := (EReal.coe_mul a b).symm
theorem addf_coe (a b : ℝ) : FloatOps.addf (F := Ideal) (φ := .f32) (a : EReal) (b : EReal) = ((a + b : ℝ) : EReal) := (EReal.coe_add a b).symm
theorem divf_coe (a b : ℝ) (h : b ≠ 0) : FloatOps.divf (F := Ideal) (φ := .f32) (a : EReal) (b : EReal) = ((a / b : ℝ) : EReal) := by
  show Ideal.div a b = _
  unfold Ideal.div
  rw [if_neg (by exact_mod_cast h), ← EReal.coe_inv, ← EReal.coe_mul, div_eq_mul_inv]

theorem dropK_eq (u : ℝ) (hu : 0 ≤ u) : dropK (F := Ideal) (u : EReal) = FloatOps.mulf (F := Ideal) (φ := .f32) (u : EReal) (tailR (F := Ideal) (u : EReal)) := by
  obtain ⟨c, ec⟩ := lit_real 0xBF38AA3B#32 (by decide) (by decide)
  obtain ⟨n0, -, e0⟩ := lit_pos 0x3EFFFFFE#32 (by decide) (by decide) (by decide)
  obtain ⟨n1, -, e1⟩ := lit_pos 0x3EAE547C#32 (by decide) (by decide) (by decide)
  obtain ⟨n2, -, e2⟩ := lit_pos 0x3DDD0D5F#32 (by decide) (by decide) (by decide)
  obtain ⟨n3, -, e3⟩ := lit_pos 0x3C6C824D#32 (by decide) (by decide) (by decide)
  obtain ⟨n4, -, e4⟩ := lit_pos 0x34763134#32 (by decide) (by decide) (by decide)
  obtain ⟨d1, p1, f1⟩ := lit_pos 0x3FBD4B16#32 (by decide) (by decide) (by decide)
  obtain ⟨d2, p2, f2⟩ := lit_pos 0x3F6558F0#32 (by decide) (by decide) (by decide)
  obtain ⟨d3, p3, f3⟩ := lit_pos 0x3E8A3E58#32 (by decide) (by decide) (by decide)
  obtain ⟨d4, p4, f4⟩ := lit_pos 0x3D14525E#32 (by decide) (by decide) (by decide)
  have f0 : (lit (F := Ideal) 0x3F800000#32 : EReal) = ((1 : ℝ) : EReal) := Exponent.ofBits_one
  have hD : 0 < (((d4 * u + d3) * u + d2) * u + d1) * u + 1 := by positivity
  have hD' : 0 < 1 + d1 * u + d2 * (u * u) + d3 * (u * (u * u)) + d4 * ((u * u) * (u * u)) := by positivity
  unfold dropK tailR numK denK numR denR poly fourth cube sq next
  rw [ec, e0, e1, e2, e3, e4, f0, f1, f2, f3, f4]
  simp only [mulf_coe, addf_coe, Exponent.exp2_coe]
  rw [divf_coe _ _ hD.ne', divf_coe _ _ hD'.ne']
  simp only [mulf_coe]
  rw [EReal.coe_eq_coe_iff, mul_comm c (u * u)]
  have h : (((d4 * u + d3) * u + d2) * u + d1) * u + 1 = 1 + d1 * u + d2 * (u * u) + d3 * (u * (u * u)) + d4 * ((u * u) * (u * u)) := by ring
  rw [h]
  ring

/-- The positive part, as the greater of a number and zero or by a choice. -/
theorem positive_part (v : EReal) : FloatOps.maximumf (F := Ideal) (φ := .f32) v (lit (F := Ideal) 0x00000000#32)
    = Scalar.select (FloatOps.cmpf (F := Ideal) (φ := .f32) .ogt v (lit (F := Ideal) 0x00000000#32)) v (lit (F := Ideal) 0x00000000#32) := by
  generalize lit (F := Ideal) 0x00000000#32 = z
  show max v z = Scalar.select (BitVec.ofBool (decide (z < v))) v z
  by_cases h : z < v
  · rw [decide_eq_true h, max_eq_left h.le]; rfl
  · rw [decide_eq_false h, max_eq_right (not_lt.mp h)]; rfl

/-- The kernel's activation is the reference's. -/
theorem geluK_eq (v : EReal) : geluK (F := Ideal) v = geluR (F := Ideal) v := by
  obtain ⟨u, hu, e⟩ := size_real v
  unfold geluK geluR
  rw [positive_part, e, dropK_eq u hu]

end Cert.Gelu

end
-- ==== Proof.Linear1Meaning.lean ====
module

public import proofs.«01_k».proof.Proof.Gelu

@[expose] public section

/-! What the first linear layer computes, as a function of its argument arrays over the extended reals. -/

noncomputable section

namespace Cert.Layer1

open Idealize.ShloMosaic Idealize.ShloMosaic.ValueIdx
open scoped BigOperators

/-- A rescaled product of codes with its bias: `M × N` codes with `N × K` ones, the scales of the rows in the first of
    `L` lanes. -/
def pre {M N K L : ℕ} [NeZero L] (h : (⟨2, ![M, N]⟩ : Shape).Idx → EReal) (hs : (⟨2, ![M, L]⟩ : Shape).Idx → EReal)
    (w : (⟨2, ![N, K]⟩ : Shape).Idx → EReal) (ws b : (⟨2, ![1, K]⟩ : Shape).Idx → EReal) (r : Fin M) (k : Fin K) : EReal :=
  ((∑ i : Fin N, h (ix2 r i) * w (ix2 i k)) * hs (ix2 r 0)) * ws (ix2 0 k) + b (ix2 0 k)

/-- The product reads one row of the codes and one column of the weights. -/
theorem pre_congr {M M' N K K' L : ℕ} [NeZero L] {h : (⟨2, ![M, N]⟩ : Shape).Idx → EReal} {hs : (⟨2, ![M, L]⟩ : Shape).Idx → EReal}
    {w : (⟨2, ![N, K]⟩ : Shape).Idx → EReal} {ws b : (⟨2, ![1, K]⟩ : Shape).Idx → EReal} {r : Fin M} {k : Fin K}
    {h' : (⟨2, ![M', N]⟩ : Shape).Idx → EReal} {hs' : (⟨2, ![M', L]⟩ : Shape).Idx → EReal}
    {w' : (⟨2, ![N, K']⟩ : Shape).Idx → EReal} {ws' b' : (⟨2, ![1, K']⟩ : Shape).Idx → EReal} {r' : Fin M'} {k' : Fin K'}
    (eh : ∀ i, h (ix2 r i) = h' (ix2 r' i)) (ehs : hs (ix2 r 0) = hs' (ix2 r' 0)) (ew : ∀ i, w (ix2 i k) = w' (ix2 i k'))
    (ews : ws (ix2 0 k) = ws' (ix2 0 k')) (eb : b (ix2 0 k) = b' (ix2 0 k')) : pre h hs w ws b r k = pre h' hs' w' ws' b' r' k' := by
  unfold pre
  rw [ehs, ews, eb, Finset.sum_congr rfl fun i _ => by rw [eh i, ew i]]

/-- The activated layer. -/
def layer {M N K L : ℕ} [NeZero L] (h : (⟨2, ![M, N]⟩ : Shape).Idx → EReal) (hs : (⟨2, ![M, L]⟩ : Shape).Idx → EReal)
    (w : (⟨2, ![N, K]⟩ : Shape).Idx → EReal) (ws b : (⟨2, ![1, K]⟩ : Shape).Idx → EReal) : (⟨2, ![M, K]⟩ : Shape).Idx → EReal :=
  fun j => Gelu.geluR (F := Ideal) (pre h hs w ws b (j 0) (j 1))

end Cert.Layer1

end
-- ==== Proof.Linear1Read.lean ====
module

public import proofs.«01_k».proof.Proof.Gen.Linear1Ideal.Frame
public import proofs.«01_k».proof.Proof.KernelRead
public import proofs.«01_k».proof.Proof.Linear1Meaning

@[expose] public section

set_option maxRecDepth 16384

/-! The first linear layer's payloads read at an index, over the extended reals. -/

noncomputable section

namespace Cert.Linear1Ideal.Read

open Idealize.ShloMosaic Idealize.ShloMosaic.ValueIdx
open Cert.Linear1Ideal.Gen Cert.Layer1 Cert.Gelu
open Cert.KernelIdeal.Read (mulf_read addf_read)
open scoped BigOperators

/-- The payload after the product, at an index: the activation of what the product left there. -/
theorem act_read {F : FTy → Type} [FloatOps F] (h : Vec F S768x12800 .fp8e4m3) (w : Vec F S12800x256 .fp8e4m3) (hs : Vec F S768x1 .f32)
    (ws b : Vec F S1x256 .f32) (y : S768x256.Idx) :
    k0_pay1 (k0_pay2 h w hs ws b) (k0_pay3 h w hs ws b) (k0_pay4 h w hs ws b) (k0_pay5 h w hs ws b) (Scalar.ofBits .f32 0x3E8A3E58#32) y
      = geluK (k0_pay2 h w hs ws b y) := rfl

/-- The rescaled product with its bias. -/
theorem pre_apply (h : Vec Ideal S768x12800 .fp8e4m3) (w : Vec Ideal S12800x256 .fp8e4m3) (hs : Vec Ideal S768x128 .f32)
    (ws b : Vec Ideal S1x256 .f32) (r : Fin 768) (k : Fin 256) :
    k0_pay2 (F := Ideal) h w (View.ld hs r0_2) ws b (ix2 r k) = pre (M := 768) (N := 12800) (K := 256) (L := 128) h hs w ws b r k := by
  have e1 : (matmul (φ₁ := .fp8e4m3) (φ₂ := .fp8e4m3) dot_S768x12800_S12800x256_S768x256_1_0_0_1_n_n none
      h w (constant S768x256 .f32 0x00000000#32) : FVec Ideal S768x256 .f32) (ix2 r k) = ∑ i : Fin 12800, h (ix2 r i) * w (ix2 i k) := by
    refine (Ideal.matmul_plain_apply (M := 768) (K := 12800) (N := 256) none h w _ r k).trans ?_
    show Ideal.ofBits .f32 0x00000000#32 + _ = _
    rw [Ideal.ofBits_zero_f32, zero_add]
  have e2 : broadcastTo S768x256 (View.ld hs r0_2) broadcasts_S768x1_S768x256 (ix2 r k) = hs (ix2 r 0) := by
    refine (broadcastTo_apply _ _ (ix2 r k) (ix2 r (0 : Fin 1)) (fun a => match a with | ⟨0, _⟩ => rfl | ⟨1, _⟩ => rfl)).trans ?_
    refine congrArg hs (funext fun a => Fin.ext ?_)
    refine (ValueKit.rect_emb_unit_val _ _ _ _ _).trans ?_
    match a with
    | ⟨0, _⟩ => exact Nat.zero_add _
    | ⟨1, _⟩ => rfl
  have e3 : ∀ v : Vec Ideal S1x256 .f32, broadcastTo S768x256 (shapeCast S1x256 v shapeCasts_S1x256_S1x256) broadcasts_S1x256_S768x256 (ix2 r k) = v (ix2 0 k) := fun v => by
    rw [shapeCast_self]
    exact broadcastTo_apply _ _ (ix2 r k) (ix2 (0 : Fin 1) k) (fun a => match a with | ⟨0, _⟩ => rfl | ⟨1, _⟩ => rfl)
  unfold k0_pay2
  exact addf_read _ _ _ _ _ (mulf_read _ _ _ _ _ (mulf_read _ _ _ _ _ e1 e2) (e3 ws)) (e3 b)

theorem zeros : (![0, 0] : Fin 2 → Nat) = fun _ => 0 := funext fun a => match a with | ⟨0, _⟩ => rfl | ⟨1, _⟩ => rfl

/-- What a point leaves in the output's buffer. -/
theorem out5_eq (h : Vec Ideal S768x12800 .fp8e4m3) (hs : Vec Ideal S768x128 .f32) (w : Vec Ideal S12800x256 .fp8e4m3)
    (ws b : Vec Ideal S1x256 .f32) : out0_5 (F := Ideal) h hs w ws b = layer (M := 768) (N := 12800) (K := 256) (L := 128) h hs w ws b := by
  unfold out0_5
  rw [View.canon_unit_zero zeros, View.ld_unit_zero zeros, View.ld_unit_zero zeros, View.ld_unit_zero zeros, View.ld_unit_zero zeros]
  funext y
  rw [eq_ix2 y]
  refine (act_read h w (View.ld hs r0_2) ws b (ix2 (y 0) (y 1))).trans ?_
  refine (congrArg (geluK (F := Ideal)) (pre_apply h w hs ws b (y 0) (y 1))).trans ?_
  exact geluK_eq _

end Cert.Linear1Ideal.Read

end
-- ==== Proof.Linear1Value.lean ====
module

public import proofs.«01_k».proof.Proof.Linear1Read

@[expose] public section

set_option maxRecDepth 16384

/-! The first linear layer's result array over the extended reals, as a function of the whole argument arrays. -/

noncomputable section

namespace Cert.Linear1Ideal.Val

open Idealize.ShloMosaic Idealize.ShloMosaic.ValueIdx Idealize.ShloMosaic.TcCoe Idealize.SL.Sem
open Idealize.ShloMosaic.Pipeline (Dat Cfg Window)
open Cert.Linear1Ideal.Gen Cert.Linear1Ideal.Read Cert.Layer1
open scoped BigOperators

variable (m : (ℓ : Loc nD τ sig) → Buf (Elt Ideal) ℓ)

/-- The blocks' indices at a point. -/
theorem index0 : ∀ t : Fin cfg0.N, win0_0.index t = ![t.val / 20, 0] := (by decide +kernel : ∀ t : Fin grid0.N, _)
theorem index1 : ∀ t : Fin cfg0.N, win0_1.index t = ![t.val / 20, 0] := (by decide +kernel : ∀ t : Fin grid0.N, _)
theorem index2 : ∀ t : Fin cfg0.N, win0_2.index t = ![0, t.val % 20] := (by decide +kernel : ∀ t : Fin grid0.N, _)
theorem index3 : ∀ t : Fin cfg0.N, win0_3.index t = ![0, t.val % 20] := (by decide +kernel : ∀ t : Fin grid0.N, _)
theorem index4 : ∀ t : Fin cfg0.N, win0_4.index t = ![0, t.val % 20] := (by decide +kernel : ∀ t : Fin grid0.N, _)
theorem index5 : ∀ t : Fin cfg0.N, win0_5.index t = ![t.val / 20, t.val % 20] := (by decide +kernel : ∀ t : Fin grid0.N, _)

/-- The array's row under row `r` of the blocks of point `t`, and its column under column `k`. -/
def arow (t : Fin cfg0.N) (r : Fin 768) : Fin 12288 := ⟨t.val / 20 * 768 + r.val, by have := t.isLt; have h : cfg0.N = 320 := N_0; omega⟩
def acol (t : Fin cfg0.N) (k : Fin 256) : Fin 5120 := ⟨t.val % 20 * 256 + k.val, by omega⟩

/-- The layer's codes and their scales, the weights' codes and scales and the bias, as the region finds them. -/
abbrev h (c : Dev nD) : S12288x12800.Idx → EReal := V m c main_arg0
abbrev hs (c : Dev nD) : S12288x128.Idx → EReal := V m c main_arg1
abbrev w (c : Dev nD) : S12800x5120.Idx → EReal := V m c main_arg2
abbrev ws (c : Dev nD) : S1x5120.Idx → EReal := V m c main_v0
abbrev b (c : Dev nD) : S1x5120.Idx → EReal := V m c main_v1

theorem iblk0_apply (c : Dev nD) (t : Fin cfg0.N) (r : Fin 768) (k : Fin 12800) : iblk m c 0 t (ix2 r k) = h m c (ix2 (arow t r) k) := by
  refine congrArg (h m c) ?_
  blk_ext [index0, arow]

theorem iblk1_apply (c : Dev nD) (t : Fin cfg0.N) (r : Fin 768) (l : Fin 128) : iblk m c 1 t (ix2 r l) = hs m c (ix2 (arow t r) l) := by
  refine congrArg (hs m c) ?_
  blk_ext [index1, arow]

theorem iblk2_apply (c : Dev nD) (t : Fin cfg0.N) (r : Fin 12800) (k : Fin 256) : iblk m c 2 t (ix2 r k) = w m c (ix2 r (acol t k)) := by
  refine congrArg (w m c) ?_
  blk_ext [index2, acol]

theorem iblk3_apply (c : Dev nD) (t : Fin cfg0.N) (k : Fin 256) : iblk m c 3 t (ix2 0 k) = ws m c (ix2 0 (acol t k)) := by
  refine congrArg (ws m c) ?_
  blk_ext [index3, acol]

theorem iblk4_apply (c : Dev nD) (t : Fin cfg0.N) (k : Fin 256) : iblk m c 4 t (ix2 0 k) = b m c (ix2 0 (acol t k)) := by
  refine congrArg (b m c) ?_
  blk_ext [index4, acol]

/-- The result's array is any function each point's block is read from (stated of any proof data: only what the points
    leave in the window's buffer matters). -/
theorem covers5 (c : Dev nD) (D : Dat τ (Elt Ideal) Unit ℕ (UR sig nD τ) ℕ cfg0 c) (X : Fin cfg0.N → Vec Ideal S768x256 .f32)
    (G : Vec Ideal S12288x5120 .f32) (h : ∀ t, D.after 5 t = X t) (hG : ∀ t y, X t y = G ((win0_5.blk t).view.emb y)) :
    D.arrAt 5 cfg0.N = G := by
  refine D.arrAt_eq_of_covers 5 _ (by decide +kernel) fun t hf y => ?_
  blk_simp
  rw [h]
  exact hG t y

theorem emb5 (t : Fin cfg0.N) (y : S768x256.Idx) : (win0_5.blk t).view.emb y = ix2 (arow t (y 0)) (acol t (y 1)) := by
  blk_ext [index5, arow, acol]

/-- The rescaled product a point makes is the whole arrays' at its place. -/
theorem pre_blk (c : Dev nD) (t : Fin cfg0.N) (r : Fin 768) (k : Fin 256) :
    pre (M := 768) (N := 12800) (K := 256) (L := 128) (iblk m c 0 t) (iblk m c 1 t) (iblk m c 2 t) (iblk m c 3 t) (iblk m c 4 t) r k
      = pre (M := 12288) (N := 12800) (K := 5120) (L := 128) (h m c) (hs m c) (w m c) (ws m c) (b m c) (arow t r) (acol t k) :=
  pre_congr (iblk0_apply m c t r) (iblk1_apply m c t r 0) (fun i => iblk2_apply m c t i k) (iblk3_apply m c t k) (iblk4_apply m c t k)

/-- The result after the grid. -/
theorem final5 (c : Dev nD) : (dats m 0 c).arrAt 5 cfg0.N
    = layer (M := 12288) (N := 12800) (K := 5120) (L := 128) (h m c) (hs m c) (w m c) (ws m c) (b m c) := by
  refine covers5 c (dats m 0 c) (fun t => layer (M := 768) (N := 12800) (K := 256) (L := 128) (iblk m c 0 t) (iblk m c 1 t) (iblk m c 2 t) (iblk m c 3 t) (iblk m c 4 t))
    (layer (M := 12288) (N := 12800) (K := 5120) (L := 128) (h m c) (hs m c) (w m c) (ws m c) (b m c))
    (fun t => (after0_5 m c t).trans (out5_eq _ _ _ _ _)) fun t y => ?_
  rw [emb5]
  exact congrArg (Gelu.geluR (F := Ideal)) (pre_blk m c t (y 0) (y 1))

end Cert.Linear1Ideal.Val

end
-- ==== Proof.Linear1Run.lean ====
module

public import proofs.«01_k».proof.Proof.Linear1Value

@[expose] public section

/-! The first linear layer's run with its result named: the layer at the argument arrays it was launched with. -/

noncomputable section

namespace Cert.Linear1Ideal.Val

open Idealize.ShloMosaic Idealize.ShloMosaic.ValueIdx Idealize.ShloMosaic.TcCoe Idealize.SL.Sem
open Cert.Linear1Ideal.Gen Cert.Layer1

variable (m : (ℓ : Loc nD τ sig) → Buf (Elt Ideal) ℓ) (ρ : Dev nD → PrngReg)

/-- A vector of 5120 numbers as the one row of a matrix. -/
abbrev asRow (v : Vec Ideal S5120 .f32) : Vec Ideal S1x5120 .f32 := shapeCast S1x5120 v shapeCasts_S5120_S1x5120

/-- The two host operations. -/
abbrev op0 : HloOp τ sig (Elt Ideal) := StableHlo.reshape main_arg3 main_v0 (rfl : (.f32 : EltTy) = .f32) shapeCasts_S5120_S1x5120
abbrev op1 : HloOp τ sig (Elt Ideal) := StableHlo.reshape main_arg4 main_v1 (rfl : (.f32 : EltTy) = .f32) shapeCasts_S5120_S1x5120
/-- The buffers at launch, and after the first operation. -/
abbrev V₀ (c : Dev nD) : Valuation τ sig (Elt Ideal) := fun b => m (c, b)
abbrev V₁ (c : Dev nD) : Valuation τ sig (Elt Ideal) := op0.result (V₀ m c)

/-- The weights' scales, as the region finds them: the argument reshaped. -/
theorem V_v0 (c : Dev nD) : V m c main_v0 = asRow (m ((c : Thread nD τ).loc main_arg3)) := by
  have h1 : op1.result (V₁ m c) main_v0 = V₁ m c main_v0 :=
    StableHlo.reshape_result_ne main_arg4 main_v1 _ _ _ _ (V₁ m c) (r := main_v0) (by decide)
  have h0 : V₁ m c main_v0 = asRow (m ((c : Thread nD τ).loc main_arg3)) :=
    (StableHlo.reshape_result (Val := Elt Ideal) main_arg3 main_v0 rfl shapeCasts_S5120_S1x5120 _ _ (V₀ m c)).trans rfl
  exact h1.trans h0

/-- The bias, as the region finds it: the argument reshaped. -/
theorem V_v1 (c : Dev nD) : V m c main_v1 = asRow (m ((c : Thread nD τ).loc main_arg4)) := by
  have h1 : op1.result (V₁ m c) main_v1 = asRow (V₁ m c main_arg4) :=
    (StableHlo.reshape_result (Val := Elt Ideal) main_arg4 main_v1 rfl shapeCasts_S5120_S1x5120 _ _ (V₁ m c)).trans rfl
  have h0 : V₁ m c main_arg4 = m ((c : Thread nD τ).loc main_arg4) :=
    StableHlo.reshape_result_ne main_arg3 main_v0 _ _ _ _ (V₀ m c) (r := main_arg4) (by decide)
  exact h1.trans (congrArg asRow h0)

/-- The run: the layer, and the arguments as they were. -/
theorem run : θ_run defs (onTc (τ := τ) (main (F := Ideal))) ⟨m, fun _ => 0, ρ⟩ fun r => ∀ c : Dev nD,
      r.2.mem ((c : Thread nD τ).loc main_v2) = layer (M := 12288) (N := 12800) (K := 5120) (L := 128) (m ((c : Thread nD τ).loc main_arg0))
        (m ((c : Thread nD τ).loc main_arg1)) (m ((c : Thread nD τ).loc main_arg2))
        (asRow (m ((c : Thread nD τ).loc main_arg3))) (asRow (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨((h c).1 5).trans ((final5 m c).trans ?r5),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (Cert.Linear1Ideal.Gen.run_main m ρ)
  case r5 =>
    unfold Val.h hs w ws b
    rw [V_main_arg0, V_main_arg1, V_main_arg2, V_v0, V_v1]

end Cert.Linear1Ideal.Val

end
-- ==== Proof.Linear1ReferenceRead.lean ====
module

public import proofs.«01_k».proof.Proof.Gen.Linear1ReferenceIdeal.Frame
public import proofs.«01_k».proof.Proof.KernelRead
public import proofs.«01_k».proof.Proof.Linear1Meaning

@[expose] public section

set_option maxRecDepth 16384

/-! The first linear layer's reference: its payloads read at an index, over the extended reals. -/

noncomputable section

namespace Cert.Linear1ReferenceIdeal.Read

open Idealize.ShloMosaic Idealize.ShloMosaic.ValueIdx
open Cert.Linear1ReferenceIdeal.Gen Cert.Layer1 Cert.Gelu
open Cert.KernelIdeal.Read (mulf_read addf_read)
open scoped BigOperators

/-- The payload after the product, at an index: the activation of what the product left there. -/
theorem act_read {F : FTy → Type} [FloatOps F] (h : Vec F S12288x12800 .fp8e4m3) (w : Vec F S12800x5120 .fp8e4m3) (hs : Vec F S12288x1 .f32)
    (ws b : Vec F S1x5120 .f32) (y : S12288x5120.Idx) :
    k0_pay1 (k0_pay3 h w hs ws b) (k0_pay4 h w hs ws b) (k0_pay5 h w hs ws b) (k0_pay6 (F := F)) y
      = geluR (k0_pay2 h w hs ws b y) := rfl

/-- The rescaled product with its bias. -/
theorem pre_apply (h : Vec Ideal S12288x12800 .fp8e4m3) (w : Vec Ideal S12800x5120 .fp8e4m3) (hs : Vec Ideal S12288x128 .f32)
    (ws b : Vec Ideal S1x5120 .f32) (r : Fin 12288) (k : Fin 5120) :
    k0_pay2 (F := Ideal) h w (View.ld hs r0_2) ws b (ix2 r k) = pre (M := 12288) (N := 12800) (K := 5120) (L := 128) h hs w ws b r k := by
  have e1 : (matmul (φ₁ := .fp8e4m3) (φ₂ := .fp8e4m3) dot_S12288x12800_S12800x5120_S12288x5120_1_0_0_1_n_n none
      h w (constant S12288x5120 .f32 0x00000000#32) : FVec Ideal S12288x5120 .f32) (ix2 r k) = ∑ i : Fin 12800, h (ix2 r i) * w (ix2 i k) := by
    refine (Ideal.matmul_plain_apply (M := 12288) (K := 12800) (N := 5120) none h w _ r k).trans ?_
    show Ideal.ofBits .f32 0x00000000#32 + _ = _
    rw [Ideal.ofBits_zero_f32, zero_add]
  have e2 : broadcastTo S12288x5120 (View.ld hs r0_2) broadcasts_S12288x1_S12288x5120 (ix2 r k) = hs (ix2 r 0) := by
    refine (broadcastTo_apply _ _ (ix2 r k) (ix2 r (0 : Fin 1)) (fun a => match a with | ⟨0, _⟩ => rfl | ⟨1, _⟩ => rfl)).trans ?_
    refine congrArg hs (funext fun a => Fin.ext ?_)
    refine (ValueKit.rect_emb_unit_val _ _ _ _ _).trans ?_
    match a with
    | ⟨0, _⟩ => exact Nat.zero_add _
    | ⟨1, _⟩ => rfl
  have e3 : ∀ v : Vec Ideal S1x5120 .f32, broadcastTo S12288x5120 (shapeCast S1x5120 v shapeCasts_S1x5120_S1x5120) broadcasts_S1x5120_S12288x5120 (ix2 r k) = v (ix2 0 k) := fun v => by
    rw [shapeCast_self]
    exact broadcastTo_apply _ _ (ix2 r k) (ix2 (0 : Fin 1) k) (fun a => match a with | ⟨0, _⟩ => rfl | ⟨1, _⟩ => rfl)
  unfold k0_pay2
  exact addf_read _ _ _ _ _ (mulf_read _ _ _ _ _ (mulf_read _ _ _ _ _ e1 e2) (e3 ws)) (e3 b)

theorem zeros : (![0, 0] : Fin 2 → Nat) = fun _ => 0 := funext fun a => match a with | ⟨0, _⟩ => rfl | ⟨1, _⟩ => rfl

/-- What the one point leaves in the output's buffer. -/
theorem out5_eq (h : Vec Ideal S12288x12800 .fp8e4m3) (hs : Vec Ideal S12288x128 .f32) (w : Vec Ideal S12800x5120 .fp8e4m3)
    (ws b : Vec Ideal S1x5120 .f32) : out0_5 (F := Ideal) h hs w ws b = layer (M := 12288) (N := 12800) (K := 5120) (L := 128) h hs w ws b := by
  unfold out0_5
  rw [View.canon_unit_zero zeros, View.ld_unit_zero zeros, View.ld_unit_zero zeros, View.ld_unit_zero zeros, View.ld_unit_zero zeros]
  funext y
  rw [eq_ix2 y]
  refine (act_read h w (View.ld hs r0_2) ws b (ix2 (y 0) (y 1))).trans ?_
  exact congrArg (geluR (F := Ideal)) (pre_apply h w hs ws b (y 0) (y 1))

end Cert.Linear1ReferenceIdeal.Read

end
-- ==== Proof.Linear1ReferenceValue.lean ====
module

public import proofs.«01_k».proof.Proof.Linear1ReferenceRead

@[expose] public section

set_option maxRecDepth 16384

/-! The first linear layer's reference: its result array over the extended reals, as a function of the whole argument arrays. -/

noncomputable section

namespace Cert.Linear1ReferenceIdeal.Val

open Idealize.ShloMosaic Idealize.ShloMosaic.ValueIdx Idealize.ShloMosaic.TcCoe Idealize.SL.Sem
open Idealize.ShloMosaic.Pipeline (Dat Cfg Window)
open Cert.Linear1ReferenceIdeal.Gen Cert.Linear1ReferenceIdeal.Read Cert.Layer1

variable (m : (ℓ : Loc nD τ sig) → Buf (Elt Ideal) ℓ)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

/-- The layer's codes and their scales, the weights' codes and scales and the bias, as the region finds them. -/
abbrev h (c : Dev nD) : S12288x12800.Idx → EReal := V m c main_arg0
abbrev hs (c : Dev nD) : S12288x128.Idx → EReal := V m c main_arg1
abbrev w (c : Dev nD) : S12800x5120.Idx → EReal := V m c main_arg2
abbrev ws (c : Dev nD) : S1x5120.Idx → EReal := V m c main_v0
abbrev b (c : Dev nD) : S1x5120.Idx → EReal := V m c main_v1

/-! The one point's blocks are the arrays. -/

theorem iblk0_eq (c : Dev nD) (t : Fin cfg0.N) : iblk m c 0 t = h m c := funext fun y => by
  refine congrArg (h m c) ?_
  blk_ext [index0]
theorem iblk1_eq (c : Dev nD) (t : Fin cfg0.N) : iblk m c 1 t = hs m c := funext fun y => by
  refine congrArg (hs m c) ?_
  blk_ext [index1]
theorem iblk2_eq (c : Dev nD) (t : Fin cfg0.N) : iblk m c 2 t = w m c := funext fun y => by
  refine congrArg (w m c) ?_
  blk_ext [index2]
theorem iblk3_eq (c : Dev nD) (t : Fin cfg0.N) : iblk m c 3 t = ws m c := funext fun y => by
  refine congrArg (ws m c) ?_
  blk_ext [index3]
theorem iblk4_eq (c : Dev nD) (t : Fin cfg0.N) : iblk m c 4 t = b m c := funext fun y => by
  refine congrArg (b m c) ?_
  blk_ext [index4]

/-- The result's array is what the one point leaves in its buffer (stated of any proof data). -/
theorem covers5 (c : Dev nD) (D : Dat τ (Elt Ideal) Unit ℕ (UR sig nD τ) ℕ cfg0 c) (G : Vec Ideal S12288x5120 .f32)
    (h : ∀ t, D.after 5 t = G) : D.arrAt 5 cfg0.N = G := by
  refine D.arrAt_eq_of_covers 5 _ (by decide +kernel) fun t hf y => ?_
  have e : (win0_5.blk t).view.emb y = y := by
    blk_ext [index5]
  blk_simp
  rw [h]
  exact congrArg G e.symm

/-- The result after the run. -/
theorem final5 (c : Dev nD) : (dats m 0 c).arrAt 5 cfg0.N
    = layer (M := 12288) (N := 12800) (K := 5120) (L := 128) (h m c) (hs m c) (w m c) (ws m c) (b m c) :=
  covers5 c (dats m 0 c) _ fun t => by rw [after0_5, iblk0_eq, iblk1_eq, iblk2_eq, iblk3_eq, iblk4_eq, out5_eq]

end Cert.Linear1ReferenceIdeal.Val

end
-- ==== Proof.Linear1ReferenceRun.lean ====
module

public import proofs.«01_k».proof.Proof.Linear1ReferenceValue

@[expose] public section

/-! The first linear layer's reference: its run with its result named: the layer at the argument arrays it was launched with. -/

noncomputable section

namespace Cert.Linear1ReferenceIdeal.Val

open Idealize.ShloMosaic Idealize.ShloMosaic.ValueIdx Idealize.ShloMosaic.TcCoe Idealize.SL.Sem
open Cert.Linear1ReferenceIdeal.Gen Cert.Layer1

variable (m : (ℓ : Loc nD τ sig) → Buf (Elt Ideal) ℓ) (ρ : Dev nD → PrngReg)

/-- A vector of 5120 numbers as the one row of a matrix. -/
abbrev asRow (v : Vec Ideal S5120 .f32) : Vec Ideal S1x5120 .f32 := shapeCast S1x5120 v shapeCasts_S5120_S1x5120

/-- The two host operations. -/
abbrev op0 : HloOp τ sig (Elt Ideal) := StableHlo.reshape main_arg3 main_v0 (rfl : (.f32 : EltTy) = .f32) shapeCasts_S5120_S1x5120
abbrev op1 : HloOp τ sig (Elt Ideal) := StableHlo.reshape main_arg4 main_v1 (rfl : (.f32 : EltTy) = .f32) shapeCasts_S5120_S1x5120
/-- The buffers at launch, and after the first operation. -/
abbrev V₀ (c : Dev nD) : Valuation τ sig (Elt Ideal) := fun b => m (c, b)
abbrev V₁ (c : Dev nD) : Valuation τ sig (Elt Ideal) := op0.result (V₀ m c)

/-- The weights' scales, as the region finds them: the argument reshaped. -/
theorem V_v0 (c : Dev nD) : V m c main_v0 = asRow (m ((c : Thread nD τ).loc main_arg3)) := by
  have h1 : op1.result (V₁ m c) main_v0 = V₁ m c main_v0 :=
    StableHlo.reshape_result_ne main_arg4 main_v1 _ _ _ _ (V₁ m c) (r := main_v0) (by decide)
  have h0 : V₁ m c main_v0 = asRow (m ((c : Thread nD τ).loc main_arg3)) :=
    (StableHlo.reshape_result (Val := Elt Ideal) main_arg3 main_v0 rfl shapeCasts_S5120_S1x5120 _ _ (V₀ m c)).trans rfl
  exact h1.trans h0

/-- The bias, as the region finds it: the argument reshaped. -/
theorem V_v1 (c : Dev nD) : V m c main_v1 = asRow (m ((c : Thread nD τ).loc main_arg4)) := by
  have h1 : op1.result (V₁ m c) main_v1 = asRow (V₁ m c main_arg4) :=
    (StableHlo.reshape_result (Val := Elt Ideal) main_arg4 main_v1 rfl shapeCasts_S5120_S1x5120 _ _ (V₁ m c)).trans rfl
  have h0 : V₁ m c main_arg4 = m ((c : Thread nD τ).loc main_arg4) :=
    StableHlo.reshape_result_ne main_arg3 main_v0 _ _ _ _ (V₀ m c) (r := main_arg4) (by decide)
  exact h1.trans (congrArg asRow h0)

/-- The run: the layer, and the arguments as they were. -/
theorem run : θ_run defs (onTc (τ := τ) (main (F := Ideal))) ⟨m, fun _ => 0, ρ⟩ fun r => ∀ c : Dev nD,
      r.2.mem ((c : Thread nD τ).loc main_v2) = layer (M := 12288) (N := 12800) (K := 5120) (L := 128) (m ((c : Thread nD τ).loc main_arg0))
        (m ((c : Thread nD τ).loc main_arg1)) (m ((c : Thread nD τ).loc main_arg2))
        (asRow (m ((c : Thread nD τ).loc main_arg3))) (asRow (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨((h c).1 5).trans ((final5 m c).trans ?r5),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (Cert.Linear1ReferenceIdeal.Gen.run_main m ρ)
  case r5 =>
    unfold Val.h hs w ws b
    rw [V_main_arg0, V_main_arg1, V_main_arg2, V_v0, V_v1]

end Cert.Linear1ReferenceIdeal.Val

end
-- ==== Proof.ExactReadKernel.lean ====
module

public import proofs.«01_k».proof.Proof.Gen.Linear1ExactIdeal.Frame
public import proofs.«01_k».proof.Proof.KernelRead
public import proofs.«01_k».proof.Proof.Linear1Meaning

@[expose] public section

set_option maxRecDepth 16384

/-! The kernel's first linear layer, in the program that runs it beside the exact one: its payloads read at an index. -/

noncomputable section

namespace Cert.Linear1ExactIdeal.ReadKernel

open Idealize.ShloMosaic Idealize.ShloMosaic.ValueIdx
open Cert.Linear1ExactIdeal.Gen Cert.Layer1 Cert.Gelu
open Cert.KernelIdeal.Read (mulf_read addf_read)
open scoped BigOperators

/-- The payload after the product, at an index: the activation of what the product left there. -/
theorem act_read {F : FTy → Type} [FloatOps F] (h : Vec F S768x12800 .fp8e4m3) (w : Vec F S12800x256 .fp8e4m3) (hs : Vec F S768x1 .f32)
    (ws b : Vec F S1x256 .f32) (y : S768x256.Idx) :
    k0_pay1 (k0_pay2 h w hs ws b) (k0_pay3 h w hs ws b) (k0_pay4 h w hs ws b) (k0_pay5 h w hs ws b) (Scalar.ofBits .f32 0x3E8A3E58#32) y
      = geluK (k0_pay2 h w hs ws b y) := rfl

/-- The rescaled product with its bias. -/
theorem pre_apply (h : Vec Ideal S768x12800 .fp8e4m3) (w : Vec Ideal S12800x256 .fp8e4m3) (hs : Vec Ideal S768x128 .f32)
    (ws b : Vec Ideal S1x256 .f32) (r : Fin 768) (k : Fin 256) :
    k0_pay2 (F := Ideal) h w (View.ld hs r0_2) ws b (ix2 r k) = pre (M := 768) (N := 12800) (K := 256) (L := 128) h hs w ws b r k := by
  have e1 : (matmul (φ₁ := .fp8e4m3) (φ₂ := .fp8e4m3) dot_S768x12800_S12800x256_S768x256_1_0_0_1_n_n none
      h w (constant S768x256 .f32 0x00000000#32) : FVec Ideal S768x256 .f32) (ix2 r k) = ∑ i : Fin 12800, h (ix2 r i) * w (ix2 i k) := by
    refine (Ideal.matmul_plain_apply (M := 768) (K := 12800) (N := 256) none h w _ r k).trans ?_
    show Ideal.ofBits .f32 0x00000000#32 + _ = _
    rw [Ideal.ofBits_zero_f32, zero_add]
  have e2 : broadcastTo S768x256 (View.ld hs r0_2) broadcasts_S768x1_S768x256 (ix2 r k) = hs (ix2 r 0) := by
    refine (broadcastTo_apply _ _ (ix2 r k) (ix2 r (0 : Fin 1)) (fun a => match a with | ⟨0, _⟩ => rfl | ⟨1, _⟩ => rfl)).trans ?_
    refine congrArg hs (funext fun a => Fin.ext ?_)
    refine (ValueKit.rect_emb_unit_val _ _ _ _ _).trans ?_
    match a with
    | ⟨0, _⟩ => exact Nat.zero_add _
    | ⟨1, _⟩ => rfl
  have e3 : ∀ v : Vec Ideal S1x256 .f32, broadcastTo S768x256 (shapeCast S1x256 v shapeCasts_S1x256_S1x256) broadcasts_S1x256_S768x256 (ix2 r k) = v (ix2 0 k) := fun v => by
    rw [shapeCast_self]
    exact broadcastTo_apply _ _ (ix2 r k) (ix2 (0 : Fin 1) k) (fun a => match a with | ⟨0, _⟩ => rfl | ⟨1, _⟩ => rfl)
  unfold k0_pay2
  exact addf_read _ _ _ _ _ (mulf_read _ _ _ _ _ (mulf_read _ _ _ _ _ e1 e2) (e3 ws)) (e3 b)

theorem zeros : (![0, 0] : Fin 2 → Nat) = fun _ => 0 := funext fun a => match a with | ⟨0, _⟩ => rfl | ⟨1, _⟩ => rfl

/-- What a point leaves in the output's buffer. -/
theorem out5_eq (h : Vec Ideal S768x12800 .fp8e4m3) (hs : Vec Ideal S768x128 .f32) (w : Vec Ideal S12800x256 .fp8e4m3)
    (ws b : Vec Ideal S1x256 .f32) : out0_5 (F := Ideal) h hs w ws b = layer (M := 768) (N := 12800) (K := 256) (L := 128) h hs w ws b := by
  unfold out0_5
  rw [View.canon_unit_zero zeros, View.ld_unit_zero zeros, View.ld_unit_zero zeros, View.ld_unit_zero zeros, View.ld_unit_zero zeros]
  funext y
  rw [eq_ix2 y]
  refine (act_read h w (View.ld hs r0_2) ws b (ix2 (y 0) (y 1))).trans ?_
  refine (congrArg (geluK (F := Ideal)) (pre_apply h w hs ws b (y 0) (y 1))).trans ?_
  exact geluK_eq _

end Cert.Linear1ExactIdeal.ReadKernel

end
-- ==== Proof.ExactValueKernel.lean ====
module

public import proofs.«01_k».proof.Proof.ExactReadKernel

@[expose] public section

set_option maxRecDepth 16384

/-! The kernel's first linear layer, in the program that runs it beside the exact one: its result array over the extended reals, as a function of the whole argument arrays. -/

noncomputable section

namespace Cert.Linear1ExactIdeal.ValKernel

open Idealize.ShloMosaic Idealize.ShloMosaic.ValueIdx Idealize.ShloMosaic.TcCoe Idealize.SL.Sem
open Idealize.ShloMosaic.Pipeline (Dat Cfg Window)
open Cert.Linear1ExactIdeal.Gen Cert.Linear1ExactIdeal.ReadKernel Cert.Layer1
open scoped BigOperators

-- what every buffer holds when the region is entered
variable (V : (c : Dev nD) → (b : Ref sig .tc) → Buf (Elt Ideal) ((c : Thread nD τ).loc b))

/-- The blocks' indices at a point. -/
theorem index0 : ∀ t : Fin cfg0.N, win0_0.index t = ![t.val / 20, 0] := (by decide +kernel : ∀ t : Fin grid0.N, _)
theorem index1 : ∀ t : Fin cfg0.N, win0_1.index t = ![t.val / 20, 0] := (by decide +kernel : ∀ t : Fin grid0.N, _)
theorem index2 : ∀ t : Fin cfg0.N, win0_2.index t = ![0, t.val % 20] := (by decide +kernel : ∀ t : Fin grid0.N, _)
theorem index3 : ∀ t : Fin cfg0.N, win0_3.index t = ![0, t.val % 20] := (by decide +kernel : ∀ t : Fin grid0.N, _)
theorem index4 : ∀ t : Fin cfg0.N, win0_4.index t = ![0, t.val % 20] := (by decide +kernel : ∀ t : Fin grid0.N, _)
theorem index5 : ∀ t : Fin cfg0.N, win0_5.index t = ![t.val / 20, t.val % 20] := (by decide +kernel : ∀ t : Fin grid0.N, _)

/-- The array's row under row `r` of the blocks of point `t`, and its column under column `k`. -/
def arow (t : Fin cfg0.N) (r : Fin 768) : Fin 12288 := ⟨t.val / 20 * 768 + r.val, by have := t.isLt; have h : cfg0.N = 320 := N_0; omega⟩
def acol (t : Fin cfg0.N) (k : Fin 256) : Fin 5120 := ⟨t.val % 20 * 256 + k.val, by omega⟩

/-- The layer's codes and their scales, the weights' codes and scales and the bias, as the region finds them. -/
abbrev h (c : Dev nD) : S12288x12800.Idx → EReal := V c main_arg0
abbrev hs (c : Dev nD) : S12288x128.Idx → EReal := V c main_arg1
abbrev w (c : Dev nD) : S12800x5120.Idx → EReal := V c main_arg2
abbrev ws (c : Dev nD) : S1x5120.Idx → EReal := V c main_v0
abbrev b (c : Dev nD) : S1x5120.Idx → EReal := V c main_v1

theorem iblk0_apply (c : Dev nD) (t : Fin cfg0.N) (r : Fin 768) (k : Fin 12800) : iblk0 V c 0 t (ix2 r k) = h V c (ix2 (arow t r) k) := by
  refine congrArg (h V c) ?_
  blk_ext [index0, arow]

theorem iblk1_apply (c : Dev nD) (t : Fin cfg0.N) (r : Fin 768) (l : Fin 128) : iblk0 V c 1 t (ix2 r l) = hs V c (ix2 (arow t r) l) := by
  refine congrArg (hs V c) ?_
  blk_ext [index1, arow]

theorem iblk2_apply (c : Dev nD) (t : Fin cfg0.N) (r : Fin 12800) (k : Fin 256) : iblk0 V c 2 t (ix2 r k) = w V c (ix2 r (acol t k)) := by
  refine congrArg (w V c) ?_
  blk_ext [index2, acol]

theorem iblk3_apply (c : Dev nD) (t : Fin cfg0.N) (k : Fin 256) : iblk0 V c 3 t (ix2 0 k) = ws V c (ix2 0 (acol t k)) := by
  refine congrArg (ws V c) ?_
  blk_ext [index3, acol]

theorem iblk4_apply (c : Dev nD) (t : Fin cfg0.N) (k : Fin 256) : iblk0 V c 4 t (ix2 0 k) = b V c (ix2 0 (acol t k)) := by
  refine congrArg (b V c) ?_
  blk_ext [index4, acol]

/-- The result's array is any function each point's block is read from (stated of any proof data: only what the points
    leave in the window's buffer matters). -/
theorem covers5 (c : Dev nD) (D : Dat τ (Elt Ideal) Unit ℕ (UR sig nD τ) ℕ cfg0 c) (X : Fin cfg0.N → Vec Ideal S768x256 .f32)
    (G : Vec Ideal S12288x5120 .f32) (h : ∀ t, D.after 5 t = X t) (hG : ∀ t y, X t y = G ((win0_5.blk t).view.emb y)) :
    D.arrAt 5 cfg0.N = G := by
  refine D.arrAt_eq_of_covers 5 _ (by decide +kernel) fun t hf y => ?_
  blk_simp
  rw [h]
  exact hG t y

theorem emb5 (t : Fin cfg0.N) (y : S768x256.Idx) : (win0_5.blk t).view.emb y = ix2 (arow t (y 0)) (acol t (y 1)) := by
  blk_ext [index5, arow, acol]

/-- The rescaled product a point makes is the whole arrays' at its place. -/
theorem pre_blk (c : Dev nD) (t : Fin cfg0.N) (r : Fin 768) (k : Fin 256) :
    pre (M := 768) (N := 12800) (K := 256) (L := 128) (iblk0 V c 0 t) (iblk0 V c 1 t) (iblk0 V c 2 t) (iblk0 V c 3 t) (iblk0 V c 4 t) r k
      = pre (M := 12288) (N := 12800) (K := 5120) (L := 128) (h V c) (hs V c) (w V c) (ws V c) (b V c) (arow t r) (acol t k) :=
  pre_congr (iblk0_apply V c t r) (iblk1_apply V c t r 0) (fun i => iblk2_apply V c t i k) (iblk3_apply V c t k) (iblk4_apply V c t k)

/-- The result after the grid. -/
theorem final5 (c : Dev nD) : (dat0 V c).arrAt 5 cfg0.N
    = layer (M := 12288) (N := 12800) (K := 5120) (L := 128) (h V c) (hs V c) (w V c) (ws V c) (b V c) := by
  refine covers5 c (dat0 V c) (fun t => layer (M := 768) (N := 12800) (K := 256) (L := 128) (iblk0 V c 0 t) (iblk0 V c 1 t) (iblk0 V c 2 t) (iblk0 V c 3 t) (iblk0 V c 4 t))
    (layer (M := 12288) (N := 12800) (K := 5120) (L := 128) (h V c) (hs V c) (w V c) (ws V c) (b V c))
    (fun t => (after0_5 V c t).trans (out5_eq _ _ _ _ _)) fun t y => ?_
  rw [emb5]
  exact congrArg (Gelu.geluR (F := Ideal)) (pre_blk V c t (y 0) (y 1))

end Cert.Linear1ExactIdeal.ValKernel

end
-- ==== Proof.Gauss.lean ====
module

public import Mathlib.MeasureTheory.Integral.IntervalIntegral.Basic
public import Mathlib.Analysis.Calculus.MeanValue
public import Mathlib.Analysis.Complex.RealDeriv
public import Mathlib.Analysis.SpecialFunctions.ExpDeriv
public import Mathlib.Analysis.SpecialFunctions.Trigonometric.Basic
public import Mathlib.Analysis.Calculus.Deriv.Inv
public import Mathlib.Analysis.Calculus.Deriv.Pow

@[expose] public section

/-! The integral of the Gaussian from zero: its derivative, and how near it is to half the square root of pi. -/

noncomputable section

namespace Cert.Gauss

open Real MeasureTheory intervalIntegral Set Filter Topology

/-- The integral of a continuous function has that function as its derivative. -/
theorem hasDerivAt_integral (f : ℝ → ℝ) (hf : Continuous f) (x : ℝ) : HasDerivAt (fun y => ∫ t in (0 : ℝ)..y, f t) (f x) x := by
  rw [hasDerivAt_iff_isLittleO, Asymptotics.isLittleO_iff]
  intro c hc
  obtain ⟨d, hd, h⟩ := Metric.continuous_iff.mp hf x c hc
  filter_upwards [Metric.ball_mem_nhds x hd] with y hy
  rw [Metric.mem_ball, Real.dist_eq] at hy
  have e : (∫ t in (0 : ℝ)..y, f t) - (∫ t in (0 : ℝ)..x, f t) - (y - x) • f x = ∫ t in x..y, (f t - f x) := by
    rw [integral_interval_sub_left (hf.intervalIntegrable _ _) (hf.intervalIntegrable _ _),
      integral_sub (hf.intervalIntegrable _ _) intervalIntegrable_const, intervalIntegral.integral_const]
  rw [e]
  refine norm_integral_le_of_norm_le_const fun t ht => ?_
  have ht' : |t - x| < d := lt_of_le_of_lt (by
    rcases le_total x y with hxy | hxy
    · rw [uIoc_of_le hxy] at ht
      rw [abs_of_nonneg (by linarith [ht.1]), abs_of_nonneg (by linarith)]; linarith [ht.2]
    · rw [uIoc_of_ge hxy] at ht
      rw [abs_of_nonpos (by linarith [ht.2]), abs_of_nonpos (by linarith)]; linarith [ht.1]) hy
  exact (h t (by rw [Real.dist_eq]; exact ht')).le

/-- The Gaussian's integral from zero. -/
def E (x : ℝ) : ℝ := ∫ t in (0 : ℝ)..x, exp (-(t ^ 2))

theorem hasDerivAt_E (x : ℝ) : HasDerivAt E (exp (-(x ^ 2))) x := hasDerivAt_integral _ (by fun_prop) x

theorem E_zero : E 0 = 0 := integral_same

theorem E_nonneg {x : ℝ} (h : 0 ≤ x) : 0 ≤ E x := integral_nonneg h fun _ _ => (exp_pos _).le

/-- The companion integral, as a function of the square. -/
def K (u : ℝ) : ℝ := ∫ t in (0 : ℝ)..1, exp (-(u * (1 + t ^ 2))) / (1 + t ^ 2)
/-- Minus its derivative. -/
def J (u : ℝ) : ℝ := ∫ t in (0 : ℝ)..1, exp (-(u * (1 + t ^ 2)))

theorem integrable_K (u : ℝ) : IntervalIntegrable (fun t : ℝ => exp (-(u * (1 + t ^ 2))) / (1 + t ^ 2)) volume 0 1 :=
  Continuous.intervalIntegrable (Continuous.div (by fun_prop) (by fun_prop) fun t => by positivity) _ _
theorem integrable_J (u : ℝ) : IntervalIntegrable (fun t : ℝ => exp (-(u * (1 + t ^ 2)))) volume 0 1 :=
  Continuous.intervalIntegrable (by fun_prop) _ _

theorem K_step (u v : ℝ) (hu : 0 ≤ u) (h : |v - u| ≤ 1 / 2) : |K v - K u - (v - u) * (-J u)| ≤ 2 * (v - u) ^ 2 := by
  have e : K v - K u - (v - u) * (-J u) = ∫ t in (0 : ℝ)..1, (exp (-(v * (1 + t ^ 2))) / (1 + t ^ 2) - exp (-(u * (1 + t ^ 2))) / (1 + t ^ 2)
      + (v - u) * exp (-(u * (1 + t ^ 2)))) := by
    rw [integral_add ((integrable_K v).sub (integrable_K u)) ((integrable_J u).const_mul _), integral_sub (integrable_K v) (integrable_K u),
      intervalIntegral.integral_const_mul]
    unfold K J
    ring
  rw [e, ← Real.norm_eq_abs]
  refine (norm_integral_le_of_norm_le_const (C := 2 * (v - u) ^ 2) fun t ht => ?_).trans (by norm_num)
  rw [uIoc_of_le zero_le_one] at ht
  have ha1 : 1 ≤ 1 + t ^ 2 := by nlinarith [sq_nonneg t]
  have ha2 : 1 + t ^ 2 ≤ 2 := by nlinarith [ht.1, ht.2]
  generalize 1 + t ^ 2 = a at ha1 ha2
  have hz : |(-((v - u) * a))| ≤ 1 := by
    rw [abs_neg, abs_mul, abs_of_pos (by linarith : 0 < a)]
    nlinarith [abs_nonneg (v - u)]
  have hq := Real.abs_exp_sub_one_sub_id_le hz
  have hv : exp (-(v * a)) = exp (-(u * a)) * exp (-((v - u) * a)) := by rw [← exp_add]; congr 1; ring
  have hx : exp (-(v * a)) / a - exp (-(u * a)) / a + (v - u) * exp (-(u * a)) = exp (-(u * a)) / a * (exp (-((v - u) * a)) - 1 - -((v - u) * a)) := by
    rw [hv]; field_simp; ring
  rw [hx, Real.norm_eq_abs, abs_mul, abs_of_pos (by positivity)]
  have h1 : exp (-(u * a)) ≤ 1 := by rw [exp_le_one_iff]; nlinarith
  calc exp (-(u * a)) / a * |exp (-((v - u) * a)) - 1 - -((v - u) * a)| ≤ 1 / a * (-((v - u) * a)) ^ 2 := by gcongr
    _ = a * (v - u) ^ 2 := by field_simp
    _ ≤ 2 * (v - u) ^ 2 := by gcongr

theorem hasDerivAt_K (u : ℝ) (hu : 0 ≤ u) : HasDerivAt K (-J u) u := by
  rw [hasDerivAt_iff_isLittleO, Asymptotics.isLittleO_iff]
  intro c hc
  filter_upwards [Metric.ball_mem_nhds u (lt_min (by norm_num : (0 : ℝ) < 1 / 2) (by positivity : 0 < c / 2))] with v hv
  rw [Metric.mem_ball, Real.dist_eq] at hv
  have h1 := (lt_min_iff.mp hv).1
  have h2 := (lt_min_iff.mp hv).2
  rw [Real.norm_eq_abs, Real.norm_eq_abs, smul_eq_mul]
  refine (K_step u v hu h1.le).trans ?_
  rw [← sq_abs]
  nlinarith [abs_nonneg (v - u)]

/-- A change of scale turns the companion's derivative into the Gaussian's integral. -/
theorem J_sq (x : ℝ) : x * J (x ^ 2) = exp (-(x ^ 2)) * E x := by
  have h : ∀ t : ℝ, exp (-(x ^ 2 * (1 + t ^ 2))) = exp (-(x ^ 2)) * exp (-((x * t) ^ 2)) := fun t => by rw [← exp_add]; congr 1; ring
  have hs := smul_integral_comp_mul_left (a := 0) (b := 1) (fun s : ℝ => exp (-(s ^ 2))) x
  rw [smul_eq_mul, mul_zero, mul_one] at hs
  unfold J E
  simp only [h]
  rw [intervalIntegral.integral_const_mul, ← hs]
  ring

theorem const_sum (x : ℝ) : E x ^ 2 + K (x ^ 2) = K 0 := by
  have hd : ∀ y, HasDerivAt (fun y => E y ^ 2 + K (y ^ 2)) 0 y := fun y => by
    have h1 := (hasDerivAt_E y).pow 2
    have h2 : HasDerivAt (fun y : ℝ => K (y ^ 2)) (-J (y ^ 2) * (↑2 * y ^ (2 - 1))) y :=
      HasDerivAt.comp (h₂ := K) (h := fun y : ℝ => y ^ 2) y (hasDerivAt_K (y ^ 2) (sq_nonneg y)) (hasDerivAt_pow 2 y)
    refine HasDerivAt.congr_deriv (h1.add h2) ?_
    have := J_sq y
    norm_num
    linear_combination (-2 : ℝ) * this
  have := is_const_of_deriv_eq_zero (fun y => (hd y).differentiableAt) (fun y => (hd y).deriv) x 0
  rw [this, E_zero]
  norm_num

/-! ## The companion at zero is a quarter of pi -/

theorem hasDerivAt_sin (x : ℝ) : HasDerivAt Real.sin (Real.cos x) x := by
  have h : HasDerivAt Complex.sin (Complex.cos (x : ℂ)) (x : ℂ) := by
    have h1 : HasDerivAt (fun z : ℂ => Complex.exp (-z * Complex.I)) (Complex.exp (-(x : ℂ) * Complex.I) * (-1 * Complex.I)) (x : ℂ) :=
      ((hasDerivAt_id (x : ℂ)).neg.mul_const Complex.I).cexp
    have h2 : HasDerivAt (fun z : ℂ => Complex.exp (z * Complex.I)) (Complex.exp ((x : ℂ) * Complex.I) * (1 * Complex.I)) (x : ℂ) :=
      ((hasDerivAt_id (x : ℂ)).mul_const Complex.I).cexp
    refine (((h1.sub h2).mul_const Complex.I).div_const 2).congr_deriv ?_
    unfold Complex.cos
    linear_combination (-(Complex.exp (-(x : ℂ) * Complex.I)) - Complex.exp ((x : ℂ) * Complex.I)) / 2 * Complex.I_mul_I
  exact h.real_of_complex

theorem hasDerivAt_cos (x : ℝ) : HasDerivAt Real.cos (-Real.sin x) x := by
  have h := (hasDerivAt_sin (x + π / 2)).comp x ((hasDerivAt_id x).add_const (π / 2))
  have e : (fun y => Real.sin (y + π / 2)) = Real.cos := funext fun y => Real.sin_add_pi_div_two y
  have := h.congr_deriv (by rw [Real.cos_add_pi_div_two, mul_one])
  rw [← e]
  exact this

theorem K_zero : K 0 = π / 4 := by
  have hc : Continuous fun t : ℝ => 1 / (1 + t ^ 2) := Continuous.div (by fun_prop) (by fun_prop) fun t => by positivity
  have hk : K 0 = ∫ t in (0 : ℝ)..1, 1 / (1 + t ^ 2) := by unfold K; simp
  have hcos : ∀ y ∈ Icc (0 : ℝ) (π / 4), Real.cos y ≠ 0 := fun y hy =>
    (Real.cos_pos_of_mem_Ioo ⟨by linarith [hy.1, pi_pos], by linarith [hy.2, pi_pos]⟩).ne'
  have hd : ∀ y ∈ Icc (0 : ℝ) (π / 4), HasDerivAt (fun y => (∫ t in (0 : ℝ)..(Real.sin y / Real.cos y), 1 / (1 + t ^ 2)) - y) 0 y := fun y hy => by
    have h1 := (hasDerivAt_sin y).div (hasDerivAt_cos y) (hcos y hy)
    have h2 := (hasDerivAt_integral _ hc (Real.sin y / Real.cos y)).comp y h1
    refine (h2.sub (hasDerivAt_id y)).congr_deriv ?_
    have h0 := hcos y hy
    have hs := Real.sin_sq_add_cos_sq y
    have hp : Real.cos y ^ 2 + Real.sin y ^ 2 ≠ 0 := by rw [add_comm, hs]; norm_num
    field_simp
    ring
  have := constant_of_has_deriv_right_zero (fun y hy => (hd y hy).continuousAt.continuousWithinAt)
    (fun y hy => (hd y ⟨hy.1, hy.2.le⟩).hasDerivWithinAt) (π / 4) ⟨by positivity, le_refl _⟩
  simp only [Real.sin_zero, zero_div, integral_same, Real.sin_pi_div_four, Real.cos_pi_div_four, sub_zero] at this
  rw [div_self (by positivity)] at this
  rw [hk]
  linarith

theorem K_bounds (u : ℝ) (hu : 0 ≤ u) : 0 ≤ K u ∧ K u ≤ exp (-u) * (π / 4) := by
  constructor
  · exact integral_nonneg zero_le_one fun t _ => by positivity
  · rw [← K_zero]
    unfold K
    rw [← intervalIntegral.integral_const_mul]
    refine integral_mono_on zero_le_one (integrable_K u) ((integrable_K 0).const_mul _) fun t _ => ?_
    have : exp (-(u * (1 + t ^ 2))) ≤ exp (-u) := by rw [exp_le_exp]; nlinarith [sq_nonneg t, mul_nonneg hu (sq_nonneg t)]
    rw [zero_mul, neg_zero, exp_zero, mul_one_div]
    gcongr

/-- The Gaussian's integral is below half the square root of pi, by no more than a Gaussian's part of it. -/
theorem E_bounds (x : ℝ) (hx : 0 ≤ x) : E x ≤ √π / 2 ∧ √π / 2 - E x ≤ exp (-(x ^ 2)) * (√π / 2) := by
  have h := const_sum x
  rw [K_zero] at h
  obtain ⟨k0, k1⟩ := K_bounds (x ^ 2) (sq_nonneg x)
  have hp : 0 < √π := by positivity
  have hs : √π * √π = π := Real.mul_self_sqrt pi_pos.le
  have he := E_nonneg hx
  have h1 : E x ≤ √π / 2 := by
    by_contra hc
    push Not at hc
    nlinarith
  refine ⟨h1, ?_⟩
  have h2 : (√π / 2 - E x) * (√π / 2 + E x) ≤ exp (-(x ^ 2)) * (π / 4) := by nlinarith
  have h3 : (√π / 2 - E x) * (√π / 2) ≤ exp (-(x ^ 2)) * (√π / 2) * (√π / 2) := by
    have h4 : 0 ≤ (√π / 2 - E x) * E x := mul_nonneg (by linarith) he
    have h5 : exp (-(x ^ 2)) * (√π / 2) * (√π / 2) = exp (-(x ^ 2)) * (π / 4) := by rw [mul_assoc, show √π / 2 * (√π / 2) = √π * √π / 4 by ring, hs]
    rw [h5]
    linarith
  exact le_of_mul_le_mul_right h3 (by positivity)

end Cert.Gauss

end
-- ==== Proof.Constants.lean ====
module

public import Mathlib.Analysis.SpecialFunctions.Trigonometric.Basic
public import Mathlib.Analysis.Complex.Trigonometric
public import Mathlib.Analysis.Complex.Exponential
public import Mathlib.Analysis.SpecialFunctions.Log.Basic

@[expose] public section

/-! Decimal bounds of pi, of the normal density at zero and of the logarithm of two. -/

noncomputable section

namespace Cert.Constants

open Real

theorem sqrt_two : (1.41421356237 : ℝ) ≤ √2 ∧ √2 ≤ 1.41421356238 :=
  ⟨Real.le_sqrt_of_sq_le (by norm_num), Real.sqrt_le_iff.mpr ⟨by norm_num, by norm_num⟩⟩

theorem sqrt_four : (1.84775906502 : ℝ) ≤ √(2 + √2) ∧ √(2 + √2) ≤ 1.84775906503 := by
  obtain ⟨a, b⟩ := sqrt_two
  exact ⟨Real.le_sqrt_of_sq_le (by norm_num; linarith), Real.sqrt_le_iff.mpr ⟨by norm_num, by norm_num; linarith⟩⟩

theorem sqrt_eight : (1.9615705608 : ℝ) ≤ √(2 + √(2 + √2)) ∧ √(2 + √(2 + √2)) ≤ 1.96157056081 := by
  obtain ⟨a, b⟩ := sqrt_four
  exact ⟨Real.le_sqrt_of_sq_le (by norm_num; linarith), Real.sqrt_le_iff.mpr ⟨by norm_num, by norm_num; linarith⟩⟩

theorem sin_small : (0.09801712 : ℝ) ≤ sin (π / 32) ∧ sin (π / 32) ≤ 0.09801716 := by
  obtain ⟨a, b⟩ := sqrt_eight
  rw [Real.sin_pi_div_thirty_two]
  constructor
  · have : (0.19603424 : ℝ) ≤ √(2 - √(2 + √(2 + √2))) := Real.le_sqrt_of_sq_le (by norm_num; linarith)
    linarith
  · have : √(2 - √(2 + √(2 + √2))) ≤ (0.19603432 : ℝ) := Real.sqrt_le_iff.mpr ⟨by norm_num, by norm_num; linarith⟩
    linarith

theorem pi_lower : (3.14159 : ℝ) < π := by
  by_contra h
  push Not at h
  have h1 : sin (π / 32) ≤ sin (3.14159 / 32) := by
    rcases h.lt_or_eq with h | h
    · exact (Real.sin_lt_sin_of_lt_of_le_pi_div_two (by linarith [pi_pos]) (by linarith [Real.two_le_pi]) (by linarith)).le
    · rw [h]
  have h2 := abs_le.mp (Real.sin_bound (x := 3.14159 / 32) (by norm_num [abs_of_pos]))
  rw [abs_of_pos (by norm_num)] at h2
  have h3 := sin_small.1
  norm_num at h1 h2 h3
  linarith [h2.2]

theorem pi_upper : π < 3.1416 := by
  by_contra h
  push Not at h
  have h1 : sin (3.1416 / 32) ≤ sin (π / 32) := by
    rcases h.lt_or_eq with h | h
    · exact (Real.sin_lt_sin_of_lt_of_le_pi_div_two (by linarith [pi_pos]) (by linarith [pi_pos]) (by linarith)).le
    · rw [h]
  have h2 := abs_le.mp (Real.sin_bound (x := 3.1416 / 32) (by norm_num [abs_of_pos]))
  rw [abs_of_pos (by norm_num)] at h2
  have h3 := sin_small.2
  norm_num at h1 h2 h3
  linarith [h2.1]

/-- The normal density at zero. -/
def density : ℝ := 1 / (√2 * √π)

theorem density_pos : 0 < density := by unfold density; positivity

theorem density_bounds : (0.3989418 : ℝ) ≤ density ∧ density ≤ 0.3989425 := by
  have hp : density ^ 2 * (2 * π) = 1 := by
    unfold density
    have h2 : √2 ^ 2 = (2 : ℝ) := Real.sq_sqrt (by norm_num)
    have h3 : √π ^ 2 = π := Real.sq_sqrt pi_pos.le
    rw [div_pow, mul_pow, h2, h3, one_pow, one_div, inv_mul_cancel₀ (by positivity)]
  have h0 := density_pos
  have l := pi_lower
  have u := pi_upper
  constructor
  · by_contra h
    push Not at h
    have : density ^ 2 < 0.3989418 ^ 2 := pow_lt_pow_left₀ h h0.le (by norm_num)
    have h4 : density ^ 2 * (2 * π) ≤ density ^ 2 * (2 * 3.1416) := by gcongr
    norm_num at this
    linarith
  · by_contra h
    push Not at h
    have : 0.3989425 ^ 2 < density ^ 2 := pow_lt_pow_left₀ h (by norm_num) (by norm_num)
    have h4 : density ^ 2 * (2 * 3.14159) ≤ density ^ 2 * (2 * π) := by gcongr
    norm_num at this
    linarith

theorem log_two : (0.69314718 : ℝ) ≤ log 2 ∧ log 2 ≤ 0.693147185 := by
  constructor
  · rw [Real.le_log_iff_exp_le (by norm_num)]
    have := Real.exp_bound' (x := 0.69314718) (by norm_num) (by norm_num) (n := 12) (by norm_num)
    norm_num [Finset.sum_range_succ, Nat.factorial] at this
    linarith
  · rw [Real.log_le_iff_le_exp (by norm_num)]
    have := Real.sum_le_exp_of_nonneg (x := 0.693147185) (by norm_num) 12
    norm_num [Finset.sum_range_succ, Nat.factorial] at this
    linarith

end Cert.Constants

end
-- ==== Proof.Poly.lean ====
module

public import Mathlib.Data.Real.Basic
public import Mathlib.Tactic.Ring
public import Mathlib.Tactic.Linarith
public import Mathlib.Tactic.Positivity

@[expose] public section

/-! Polynomials with whole coefficients, as lists, and a check that one is nowhere negative on an interval: the interval is
    cut into stretches, the polynomial is moved to each stretch's start and scaled to its length, and its lowest value there
    is bounded below from the coefficients. -/

namespace Cert.Poly

/-- The value at a number; the first coefficient is the constant one. -/
def ev : List ℤ → ℝ → ℝ
  | [], _ => 0
  | c :: cs, x => c + x * ev cs x

/-- Sum, and product by a whole number. -/
def add : List ℤ → List ℤ → List ℤ
  | [], q => q
  | p, [] => p
  | a :: p, b :: q => (a + b) :: add p q
def smul (k : ℤ) : List ℤ → List ℤ
  | [] => []
  | a :: p => (k * a) :: smul k p
/-- The polynomial with its argument moved by a whole number. -/
def shift (a : ℤ) : List ℤ → List ℤ
  | [] => []
  | c :: cs => add [c] (add (smul a (shift a cs)) (0 :: shift a cs))
/-- The polynomial with its argument multiplied by a whole number. -/
def scale (w : ℤ) : List ℤ → List ℤ
  | [] => []
  | c :: cs => c :: smul w (scale w cs)
/-- A number no greater than any value on the unit interval. -/
def low : List ℤ → ℤ
  | [] => 0
  | c :: cs => c + min 0 (low cs)

theorem ev_add (p q : List ℤ) (x : ℝ) : ev (add p q) x = ev p x + ev q x := by
  induction p generalizing q with
  | nil => simp [add, ev]
  | cons a p ih =>
    cases q with
    | nil => simp [add, ev]
    | cons b q => simp only [add, ev, ih]; push_cast; ring

theorem ev_smul (k : ℤ) (p : List ℤ) (x : ℝ) : ev (smul k p) x = k * ev p x := by
  induction p with
  | nil => simp [smul, ev]
  | cons a p ih => simp only [smul, ev, ih]; push_cast; ring

theorem ev_shift (a : ℤ) (p : List ℤ) (x : ℝ) : ev (shift a p) x = ev p (a + x) := by
  induction p with
  | nil => simp [shift, ev]
  | cons c p ih => simp only [shift, ev_add, ev_smul, ev, ih]; push_cast; ring

theorem ev_scale (w : ℤ) (p : List ℤ) (x : ℝ) : ev (scale w p) x = ev p (w * x) := by
  induction p with
  | nil => simp [scale, ev]
  | cons c p ih => simp only [scale, ev_smul, ev, ih]; ring

theorem low_le (p : List ℤ) (x : ℝ) (h0 : 0 ≤ x) (h1 : x ≤ 1) : (low p : ℝ) ≤ ev p x := by
  induction p with
  | nil => simp [low, ev]
  | cons c p ih =>
    simp only [low, ev]
    push_cast
    have h : min (0 : ℝ) (low p) ≤ x * ev p x := by
      rcases le_total 0 (low p : ℝ) with h | h
      · exact (min_le_left _ _).trans (mul_nonneg h0 (h.trans ih))
      · refine (min_le_right _ _).trans ?_
        nlinarith
    linarith

/-- The check, stretch by stretch. -/
def check : List ℤ → List ℕ → Bool
  | _, [] => true
  | p, w :: ws => decide (0 ≤ low (scale w p)) && check (shift w p) ws

/-- A polynomial that passes is not negative on the stretches. -/
theorem nonneg_of_check (ws : List ℕ) (p : List ℤ) (h : check p ws = true) (hw : ∀ w ∈ ws, 0 < w) (x : ℝ) (h0 : 0 ≤ x) (h1 : x ≤ (ws.sum : ℕ)) (hn : ws ≠ []) :
    0 ≤ ev p x := by
  induction ws generalizing p x with
  | nil => exact absurd rfl hn
  | cons w ws ih =>
    simp only [check, Bool.and_eq_true, decide_eq_true_eq] at h
    have hw0 : (0 : ℝ) < w := by exact_mod_cast hw w (by simp)
    by_cases hx : x ≤ w
    · have e := low_le (scale w p) (x / w) (by positivity) (by rw [div_le_one hw0]; exact hx)
      rw [ev_scale] at e
      have e' : ((w : ℤ) : ℝ) * (x / w) = x := by push_cast; rw [mul_div_cancel₀ _ hw0.ne']
      rw [e'] at e
      exact le_trans (by exact_mod_cast h.1) e
    · push Not at hx
      simp only [List.sum_cons] at h1
      push_cast at h1
      have hne : ws ≠ [] := by
        rintro rfl
        simp at h1
        linarith
      have := ih (shift w p) h.2 (fun v hv => hw v (by simp [hv])) (x - w) (by linarith) (by push_cast; linarith) hne
      rw [ev_shift] at this
      push_cast at this
      rwa [show (w : ℝ) + (x - w) = x by ring] at this

end Cert.Poly
-- ==== Proof.Quotient.lean ====
module

public import proofs.«01_k».proof.Proof.Poly

@[expose] public section

/-! The quotient of polynomials of the kernel's gelu, over the real numbers: its coefficients, and that its derivative
    is what the normal distribution's tail asks for up to five millionths of the Gaussian, from 0 to 13.5. -/

noncomputable section

namespace Cert.Quotient

/-- The numerator and the denominator, and their derivatives. -/
def num (x : ℝ) : ℝ := (8388607 / 16777216) + (2856223 / 8388608) * x + (14486879 / 134217728) * x ^ 2 + (15499853 / 1073741824) * x ^ 3 + (4033613 / 17592186044416) * x ^ 4
def den (x : ℝ) : ℝ := (1) + (6202763 / 4194304) * x + (939407 / 1048576) * x ^ 2 + (1132491 / 4194304) * x ^ 3 + (4860207 / 134217728) * x ^ 4
def num' (x : ℝ) : ℝ := (2856223 / 8388608) + (14486879 / 67108864) * x + (46499559 / 1073741824) * x ^ 2 + (4033613 / 4398046511104) * x ^ 3
def den' (x : ℝ) : ℝ := (6202763 / 4194304) + (939407 / 524288) * x + (3397473 / 4194304) * x ^ 2 + (4860207 / 33554432) * x ^ 3

theorem num_nonneg {x : ℝ} (h : 0 ≤ x) : 0 ≤ num x := by unfold num; positivity
theorem den_ge_one {x : ℝ} (h : 0 ≤ x) : 1 ≤ den x := by
  unfold den
  have : 0 ≤ (6202763 / 4194304) * x + (939407 / 1048576) * x ^ 2 + (1132491 / 4194304) * x ^ 3 + (4860207 / 134217728) * x ^ 4 := by positivity
  linarith
theorem num_le_half {x : ℝ} (h : 0 ≤ x) : num x ≤ den x / 2 := by
  have : den x / 2 - num x = (1 / 16777216) + (836635 / 2097152) * x + (45635169 / 134217728) * x ^ 2 + (129458995 / 1073741824) * x ^ 3 + (318514492339 / 17592186044416) * x ^ 4 := by unfold num den; ring
  have h2 : 0 ≤ den x / 2 - num x := by rw [this]; positivity
  linarith

/-- What the derivative of the Gaussian times the quotient is, times the square of the denominator, over the Gaussian. -/
def tilt (x : ℝ) : ℝ := num' x * den x - num x * den' x - x * num x * den x

/-- The two sides' slack, as polynomials of 1024 times the argument. -/
def upper : List ℤ := [390113775358037612717205957785756115694256128, 27208631892785422219132986930234945351712768, -86750169906312324498742537222355163283456, 163370999946053275917952876238184906752, -126249513383349644947642655268929536, 56053173574320140149617982439424, -12603232894665715492379951104, 1631868157600916354105344, -98480115527302152192, 2450524267236375]
def lower : List ℤ := [1879923457147694795066475798924751190628616896512, -10871199577261677778845151708868446768152444928, 62277332044694922368571780040975851691442176, -95797817684374319726264755350617553108992, 82138639434039202711573350482345721856, -33918650050265340161553683976290304, 8130830655818368118686518083584, -984741123395330550607642624, 63853594367122694111232, -1531577667022734375]

theorem upper_check : Poly.check upper [256, 1024, 4096, 8192, 256] = true := by decide +kernel
theorem lower_check : Poly.check lower [128, 512, 2048, 8192, 2048, 512, 256, 128] = true := by decide +kernel

theorem upper_ev (x : ℝ) : Poly.ev upper (1024 * x) = 365375409332725729550921208179070754913983135744000 * ((0.000005 - 0.3989425) * den x ^ 2 - tilt x) := by
  unfold upper tilt num den num' den'
  simp only [Poly.ev]
  push_cast
  ring

theorem lower_ev (x : ℝ) : Poly.ev lower (1024 * x) = 228359630832953580969325755111919221821239459840000000 * ((0.000005 + 0.3989418) * den x ^ 2 + tilt x) := by
  unfold lower tilt num den num' den'
  simp only [Poly.ev]
  push_cast
  ring

theorem tilt_upper {x : ℝ} (h0 : 0 ≤ x) (h1 : x ≤ 13.5) : tilt x ≤ (0.000005 - 0.3989425) * den x ^ 2 := by
  have h := Poly.nonneg_of_check _ _ upper_check (by decide) (1024 * x) (by linarith) (by norm_num; linarith) (by simp)
  rw [upper_ev] at h
  have := nonneg_of_mul_nonneg_right h (by norm_num)
  linarith

theorem tilt_lower {x : ℝ} (h0 : 0 ≤ x) (h1 : x ≤ 13.5) : -(0.000005 + 0.3989418) * den x ^ 2 ≤ tilt x := by
  have h := Poly.nonneg_of_check _ _ lower_check (by decide) (1024 * x) (by linarith) (by norm_num; linarith) (by simp)
  rw [lower_ev] at h
  have := nonneg_of_mul_nonneg_right h (by norm_num)
  linarith

end Cert.Quotient

end
-- ==== Proof.Tail.lean ====
module

public import proofs.«01_k».proof.Proof.Gauss
public import proofs.«01_k».proof.Proof.Constants
public import proofs.«01_k».proof.Proof.Quotient
public import Mathlib.Analysis.Calculus.Deriv.MeanValue

@[expose] public section

/-! The normal distribution's tail over the real numbers, and how far from it the Gaussian times the quotient of polynomials
    is. -/

noncomputable section

namespace Cert.Tail

open Real Set Cert.Gauss Cert.Constants Cert.Quotient

/-- The weight of the standard normal distribution above a number. -/
def Q (x : ℝ) : ℝ := 1 / 2 - E (x / √2) / √π

theorem half_sq (x : ℝ) : (x / √2) ^ 2 = x ^ 2 / 2 := by
  rw [div_pow, Real.sq_sqrt (by norm_num)]

theorem Q_bounds {x : ℝ} (h : 0 ≤ x) : 0 ≤ Q x ∧ Q x ≤ exp (-(x ^ 2 / 2)) / 2 := by
  obtain ⟨h1, h2⟩ := E_bounds (x / √2) (by positivity)
  rw [half_sq] at h2
  have hp : 0 < √π := by positivity
  have e : Q x = (√π / 2 - E (x / √2)) / √π := by unfold Q; field_simp
  rw [e]
  constructor
  · exact div_nonneg (by linarith) hp.le
  · rw [div_le_iff₀ hp]
    linarith

theorem hasDerivAt_Q (x : ℝ) : HasDerivAt Q (-(density * exp (-(x ^ 2 / 2)))) x := by
  have h1 : HasDerivAt (fun y : ℝ => y / √2) (1 / √2) x := (hasDerivAt_id x).div_const _
  have h2 : HasDerivAt (fun y : ℝ => E (y / √2)) (exp (-((x / √2) ^ 2)) * (1 / √2)) x :=
    HasDerivAt.comp (h₂ := E) (h := fun y : ℝ => y / √2) x (hasDerivAt_E _) h1
  refine ((h2.div_const √π).const_sub (1 / 2)).congr_deriv ?_
  rw [half_sq]
  unfold density
  have h3 : √2 ≠ 0 := by positivity
  have h4 : √π ≠ 0 := by positivity
  field_simp

theorem hasDerivAt_gauss (x : ℝ) : HasDerivAt (fun y : ℝ => exp (-(y ^ 2 / 2))) (-(x * exp (-(x ^ 2 / 2)))) x := by
  have h1 : HasDerivAt (fun y : ℝ => -(y ^ 2 / 2)) (-x) x := by
    refine (((hasDerivAt_pow 2 x).div_const 2).neg).congr_deriv ?_
    norm_num
  refine h1.exp.congr_deriv ?_
  ring

theorem hasDerivAt_num (x : ℝ) : HasDerivAt num (num' x) x := by
  have p := fun (c : ℝ) (n : ℕ) => (hasDerivAt_pow n x).const_mul c
  have h := ((((p (8388607 / 16777216) 0).add (p (2856223 / 8388608) 1)).add (p (14486879 / 134217728) 2)).add (p (15499853 / 1073741824) 3)).add (p (4033613 / 17592186044416) 4)
  refine (h.congr_of_eventuallyEq (Filter.Eventually.of_forall fun y => ?_)).congr_deriv ?_
  · simp only [Pi.add_apply]; unfold num; ring
  · unfold num'; norm_num; ring

theorem hasDerivAt_den (x : ℝ) : HasDerivAt den (den' x) x := by
  have p := fun (c : ℝ) (n : ℕ) => (hasDerivAt_pow n x).const_mul c
  have h := ((((p (1 / 1) 0).add (p (6202763 / 4194304) 1)).add (p (939407 / 1048576) 2)).add (p (1132491 / 4194304) 3)).add (p (4860207 / 134217728) 4)
  refine (h.congr_of_eventuallyEq (Filter.Eventually.of_forall fun y => ?_)).congr_deriv ?_
  · simp only [Pi.add_apply]; unfold den; ring
  · unfold den'; norm_num; ring

/-- The Gaussian times the quotient, less the tail. -/
def gap (x : ℝ) : ℝ := exp (-(x ^ 2 / 2)) * (num x / den x) - Q x

theorem hasDerivAt_gap {x : ℝ} (h : 0 ≤ x) : HasDerivAt gap (exp (-(x ^ 2 / 2)) * (tilt x / den x ^ 2 + density)) x := by
  have hd : den x ≠ 0 := by linarith [den_ge_one h]
  refine (((hasDerivAt_gauss x).mul ((hasDerivAt_num x).div (hasDerivAt_den x) hd)).sub (hasDerivAt_Q x)).congr_deriv ?_
  unfold tilt
  simp only [Pi.div_apply]
  field_simp
  ring

theorem tilt_bound {x : ℝ} (h0 : 0 ≤ x) (h1 : x ≤ 13.5) : |tilt x / den x ^ 2 + density| ≤ 0.000005 := by
  have hd : 0 < den x ^ 2 := by have := den_ge_one h0; positivity
  obtain ⟨k1, k2⟩ := density_bounds
  have a : tilt x / den x ^ 2 ≤ 0.000005 - 0.3989425 := by rw [div_le_iff₀ hd]; exact tilt_upper h0 h1
  have b : -(0.000005 + 0.3989418) ≤ tilt x / den x ^ 2 := by rw [le_div_iff₀ hd]; exact tilt_lower h0 h1
  rw [abs_le]
  constructor <;> linarith

theorem quotient_bounds {x : ℝ} (h : 0 ≤ x) : 0 ≤ num x / den x ∧ num x / den x ≤ 1 / 2 := by
  have hd : 0 < den x := by linarith [den_ge_one h]
  refine ⟨div_nonneg (num_nonneg h) hd.le, ?_⟩
  rw [div_le_iff₀ hd]
  linarith [num_le_half h]

theorem gap_le {x : ℝ} (h : 0 ≤ x) : |gap x| ≤ exp (-(x ^ 2 / 2)) / 2 := by
  obtain ⟨q0, q1⟩ := Q_bounds h
  obtain ⟨r0, r1⟩ := quotient_bounds h
  have e := exp_pos (-(x ^ 2 / 2))
  unfold gap
  rw [abs_le]
  constructor <;> nlinarith

/-- A Gaussian far out is next to nothing. -/
theorem exp_far : exp (-77 : ℝ) ≤ 0.000000001 := by
  have h : (8 : ℝ) ^ 11 ≤ exp 77 := by
    have h7 : (8 : ℝ) ≤ exp 7 := by have := Real.add_one_le_exp (7 : ℝ); linarith
    calc (8 : ℝ) ^ 11 ≤ exp 7 ^ 11 := by gcongr
      _ = exp 77 := by rw [← Real.exp_nat_mul]; norm_num
  rw [Real.exp_neg]
  refine (inv_anti₀ (by norm_num) h).trans ?_
  norm_num

theorem far {x : ℝ} (h : 13.5 ≤ x) : x * exp (-(x ^ 2 / 2)) ≤ 0.000000001 := by
  have h1 : exp (-(x ^ 2 / 2)) ≤ exp (-77) * exp (-x) := by
    rw [← Real.exp_add, Real.exp_le_exp]
    nlinarith
  have h2 : x * exp (-x) ≤ 1 := by
    rw [Real.exp_neg, ← div_eq_mul_inv, div_le_one (exp_pos x)]
    linarith [Real.add_one_le_exp x]
  have hx : 0 ≤ x := by linarith
  calc x * exp (-(x ^ 2 / 2)) ≤ x * (exp (-77) * exp (-x)) := by gcongr
    _ = exp (-77) * (x * exp (-x)) := by ring
    _ ≤ exp (-77) * 1 := by gcongr
    _ ≤ _ := by linarith [exp_far]

/-- One side of the bound: a multiple of the Gaussian over the argument, plus or minus the gap, falls up to 13.5. -/
theorem one_side (s : ℝ) (hs : |s| = 1) {x : ℝ} (h0 : 0 < x) (h1 : x ≤ 13.5) : -(s * (x * gap x)) ≤ 0.00000501 := by
  have hd : ∀ y ∈ Icc x 13.5, HasDerivAt (fun y => 0.000005 * (exp (-(y ^ 2 / 2)) / y) + s * gap y)
      (0.000005 * ((-(y * exp (-(y ^ 2 / 2))) * y - exp (-(y ^ 2 / 2)) * 1) / y ^ 2)
        + s * (exp (-(y ^ 2 / 2)) * (tilt y / den y ^ 2 + density))) y := fun y hy => by
    have hy0 : 0 < y := h0.trans_le hy.1
    exact ((((hasDerivAt_gauss y).div (hasDerivAt_id y) hy0.ne')).const_mul _).add ((hasDerivAt_gap hy0.le).const_mul s)
  have ha : AntitoneOn (fun y => 0.000005 * (exp (-(y ^ 2 / 2)) / y) + s * gap y) (Icc x 13.5) := by
    refine antitoneOn_of_deriv_nonpos (convex_Icc _ _) (fun y hy => (hd y hy).continuousAt.continuousWithinAt)
      (fun y hy => (hd y (interior_subset hy)).differentiableAt.differentiableWithinAt) fun y hy => ?_
    have hy' := interior_subset hy
    have hy0 : 0 < y := h0.trans_le hy'.1
    rw [(hd y hy').deriv]
    have b := tilt_bound hy0.le hy'.2
    have e := exp_pos (-(y ^ 2 / 2))
    have b2 : s * (tilt y / den y ^ 2 + density) ≤ 0.000005 := by
      refine (le_abs_self _).trans ?_
      rw [abs_mul, hs, one_mul]
      exact b
    have e1 : (-(y * exp (-(y ^ 2 / 2))) * y - exp (-(y ^ 2 / 2)) * 1) / y ^ 2 = -exp (-(y ^ 2 / 2)) - exp (-(y ^ 2 / 2)) / y ^ 2 := by
      field_simp
    have e2 : 0 ≤ exp (-(y ^ 2 / 2)) / y ^ 2 := by positivity
    rw [e1]
    have e3 : s * (exp (-(y ^ 2 / 2)) * (tilt y / den y ^ 2 + density)) = exp (-(y ^ 2 / 2)) * (s * (tilt y / den y ^ 2 + density)) := by ring
    have e4 : exp (-(y ^ 2 / 2)) * (s * (tilt y / den y ^ 2 + density)) ≤ exp (-(y ^ 2 / 2)) * 0.000005 := by gcongr
    rw [e3]
    linarith
  have h := ha ⟨le_refl x, h1⟩ ⟨h1, le_refl _⟩ h1
  simp only at h
  have g := gap_le (x := 13.5) (by norm_num)
  have f := far (x := 13.5) (le_refl _)
  have g2 : -(s * gap 13.5) ≤ exp (-((13.5 : ℝ) ^ 2 / 2)) / 2 := by
    refine (neg_le_abs _).trans ?_
    rw [abs_mul, hs, one_mul]
    exact g
  have e := exp_pos (-((13.5 : ℝ) ^ 2 / 2))
  have e5 : 0 ≤ exp (-((13.5 : ℝ) ^ 2 / 2)) / 13.5 := by positivity
  have e6 : exp (-(x ^ 2 / 2)) ≤ 1 := by rw [Real.exp_le_one_iff]; nlinarith [sq_nonneg x]
  have h2 : -(s * gap x) ≤ 0.000005 * (exp (-(x ^ 2 / 2)) / x) + exp (-((13.5 : ℝ) ^ 2 / 2)) / 2 := by linarith
  have h3 : x * -(s * gap x) ≤ x * (0.000005 * (exp (-(x ^ 2 / 2)) / x) + exp (-((13.5 : ℝ) ^ 2 / 2)) / 2) := by gcongr
  have h4 : x * (0.000005 * (exp (-(x ^ 2 / 2)) / x) + exp (-((13.5 : ℝ) ^ 2 / 2)) / 2)
      = 0.000005 * exp (-(x ^ 2 / 2)) + x * exp (-((13.5 : ℝ) ^ 2 / 2)) / 2 := by field_simp
  have h5 : x * exp (-((13.5 : ℝ) ^ 2 / 2)) ≤ 13.5 * exp (-((13.5 : ℝ) ^ 2 / 2)) := by gcongr
  rw [h4] at h3
  have h6 : -(s * (x * gap x)) = x * -(s * gap x) := by ring
  rw [h6]
  linarith

/-- The gap, times the argument, is at most a little more than five millionths. -/
theorem gap_bound {x : ℝ} (h0 : 0 ≤ x) (h1 : x ≤ 13.5) : |x * gap x| ≤ 0.00000501 := by
  rcases h0.eq_or_lt with rfl | h0
  · rw [zero_mul, abs_zero]; norm_num
  · have a := one_side 1 (by norm_num) h0 h1
    have b := one_side (-1) (by norm_num) h0 h1
    rw [abs_le]
    constructor <;> linarith

end Cert.Tail

end
-- ==== Proof.RealGelu.lean ====
module

public import proofs.«01_k».proof.Proof.Tail

@[expose] public section

/-! The kernel's gelu and the exact one over the real numbers, and that they differ by at most 2^-17. -/

noncomputable section

namespace Cert.RealGelu

open Real Cert.Gauss Cert.Constants Cert.Quotient Cert.Tail

/-- The multiple of the square that the kernel raises two to. -/
def mult : ℝ := -(12102203 / 16777216)
/-- The kernel's tail. -/
def T (u : ℝ) : ℝ := (2 : ℝ) ^ (mult * (u * u)) * (num u / den u)
/-- The size cut at 13.5. -/
def cut (v : ℝ) : ℝ := min (max v (-v)) 13.5
/-- The kernel's gelu. -/
def near (v : ℝ) : ℝ := max v 0 - cut v * T (cut v)
/-- The error function, and the exact gelu. -/
def erf (x : ℝ) : ℝ := 2 / √π * E x
def exact (v : ℝ) : ℝ := 1 / 2 * v * (1 + erf (v / √2))

/-- The kernel's power of two is a Gaussian but for a hundred-millionth in its exponent. -/
def rate : ℝ := 12102203 / 16777216 * log 2

theorem rate_bounds : 1 / 2 - 0.00000001 ≤ rate ∧ rate ≤ 1 / 2 := by
  obtain ⟨a, b⟩ := log_two
  unfold rate
  constructor <;> linarith

theorem T_eq (u : ℝ) : T u = exp (-(rate * u ^ 2)) * (num u / den u) := by
  unfold T
  rw [Real.rpow_def_of_pos (by norm_num)]
  congr 2
  unfold rate mult
  ring

theorem T_near {u : ℝ} (h0 : 0 ≤ u) (h1 : u ≤ 13.5) :
    0 ≤ u * (T u - exp (-(u ^ 2 / 2)) * (num u / den u)) ∧ u * (T u - exp (-(u ^ 2 / 2)) * (num u / den u)) ≤ 0.0000002 := by
  obtain ⟨a, b⟩ := rate_bounds
  obtain ⟨r0, r1⟩ := quotient_bounds h0
  have hs : 0 ≤ u ^ 2 := sq_nonneg u
  have e : exp (-(u ^ 2 / 2)) = exp (-(rate * u ^ 2)) * exp (-((1 / 2 - rate) * u ^ 2)) := by
    rw [← Real.exp_add]; congr 1; ring
  have h2 : 1 - (1 / 2 - rate) * u ^ 2 ≤ exp (-((1 / 2 - rate) * u ^ 2)) := by
    have := Real.add_one_le_exp (-((1 / 2 - rate) * u ^ 2)); linarith
  have h3 : exp (-((1 / 2 - rate) * u ^ 2)) ≤ 1 := by rw [Real.exp_le_one_iff]; nlinarith
  have hg := exp_pos (-(rate * u ^ 2))
  -- the Gaussian times the square is bounded
  have h4 : u ^ 2 * exp (-(rate * u ^ 2)) ≤ 2.1 := by
    rw [Real.exp_neg, ← div_eq_mul_inv, div_le_iff₀ (exp_pos _)]
    have := Real.add_one_le_exp (rate * u ^ 2)
    nlinarith
  have h5 : T u - exp (-(u ^ 2 / 2)) * (num u / den u)
      = (exp (-(rate * u ^ 2)) * (1 - exp (-((1 / 2 - rate) * u ^ 2)))) * (num u / den u) := by rw [T_eq, e]; ring
  have h6 : exp (-(rate * u ^ 2)) * (1 - exp (-((1 / 2 - rate) * u ^ 2))) ≤ 0.000000021 := by
    calc exp (-(rate * u ^ 2)) * (1 - exp (-((1 / 2 - rate) * u ^ 2))) ≤ exp (-(rate * u ^ 2)) * ((1 / 2 - rate) * u ^ 2) := by
          gcongr; linarith
      _ = (1 / 2 - rate) * (u ^ 2 * exp (-(rate * u ^ 2))) := by ring
      _ ≤ 0.00000001 * 2.1 := by gcongr; linarith
      _ = 0.000000021 := by norm_num
  have h7 : 0 ≤ exp (-(rate * u ^ 2)) * (1 - exp (-((1 / 2 - rate) * u ^ 2))) := mul_nonneg hg.le (by linarith)
  rw [h5]
  refine ⟨mul_nonneg h0 (mul_nonneg h7 r0), ?_⟩
  calc u * ((exp (-(rate * u ^ 2)) * (1 - exp (-((1 / 2 - rate) * u ^ 2)))) * (num u / den u)) ≤ 13.5 * (0.000000021 * (1 / 2)) := by gcongr
    _ ≤ 0.0000002 := by norm_num

theorem T_last : |13.5 * T 13.5| ≤ 0.000001 := by
  obtain ⟨a, b⟩ := T_near (u := 13.5) (by norm_num) (le_refl _)
  obtain ⟨r0, r1⟩ := quotient_bounds (x := 13.5) (by norm_num)
  have f := far (x := 13.5) (le_refl _)
  have e := exp_pos (-((13.5 : ℝ) ^ 2 / 2))
  have h : exp (-((13.5 : ℝ) ^ 2 / 2)) * (num 13.5 / den 13.5) ≤ exp (-((13.5 : ℝ) ^ 2 / 2)) * (1 / 2) := by gcongr
  have h0 : 0 ≤ exp (-((13.5 : ℝ) ^ 2 / 2)) * (num 13.5 / den 13.5) := mul_nonneg e.le r0
  rw [abs_le]
  constructor <;> linarith

/-- The tails, each times its size, are near. -/
theorem tails {w : ℝ} (h : 0 ≤ w) : |w * Q w - min w 13.5 * T (min w 13.5)| ≤ 0.0000075 := by
  rcases le_total w 13.5 with h1 | h1
  · rw [min_eq_left h1]
    obtain ⟨a, b⟩ := T_near h h1
    have g := abs_le.mp (gap_bound h h1)
    have e : w * Q w - w * T w = -(w * gap w) - w * (T w - exp (-(w ^ 2 / 2)) * (num w / den w)) := by unfold gap; ring
    rw [e, abs_le]
    constructor <;> linarith [g.1, g.2]
  · rw [min_eq_right h1]
    obtain ⟨q0, q1⟩ := Q_bounds h
    have f := far h1
    have t := abs_le.mp T_last
    have q2 : w * Q w ≤ w * (exp (-(w ^ 2 / 2)) / 2) := by gcongr
    have q3 : 0 ≤ w * Q w := mul_nonneg h q0
    rw [abs_le]
    constructor <;> linarith [t.1, t.2]

theorem E_neg (x : ℝ) : E (-x) = -E x := by
  have h := intervalIntegral.integral_comp_neg (a := 0) (b := x) (fun t : ℝ => exp (-(t ^ 2)))
  simp only [neg_sq, neg_zero] at h
  unfold E
  rw [h, intervalIntegral.integral_symm]

theorem exact_eq (v : ℝ) : exact v = max v 0 - max v (-v) * Q (max v (-v)) := by
  have hp : √π ≠ 0 := by positivity
  unfold exact erf Q
  rcases le_total 0 v with h | h
  · rw [max_eq_left h, max_eq_left (by linarith)]
    field_simp
    ring
  · rw [max_eq_right h, max_eq_right (by linarith), neg_div, E_neg]
    field_simp
    ring

/-- The two differ by at most 2^-17. -/
theorem near_exact (v : ℝ) : |near v - exact v| ≤ 1 / 131072 := by
  have hw : 0 ≤ max v (-v) := le_max_iff.mpr (by rcases le_total 0 v with h | h <;> [left; right] <;> linarith)
  have h := tails hw
  rw [exact_eq]
  unfold near cut
  rw [show max v 0 - min (max v (-v)) 13.5 * T (min (max v (-v)) 13.5) - (max v 0 - max v (-v) * Q (max v (-v)))
    = max v (-v) * Q (max v (-v)) - min (max v (-v)) 13.5 * T (min (max v (-v)) 13.5) by ring]
  exact h.trans (by norm_num)

end Cert.RealGelu

end
-- ==== Proof.NearGelu.lean ====
module

public import proofs.«01_k».proof.Proof.Gelu
public import proofs.«01_k».proof.Proof.RealGelu

@[expose] public section

/-! The kernel's gelu and the exact one over the extended reals: equal, or real numbers that differ by at most 2^-17. -/

noncomputable section

namespace Cert.NearGelu

open Idealize.ShloMosaic Cert.Gelu

section Scalars

variable {F : FTy → Type} [FloatOps F]

/-- The exact gelu: half the number, times one plus the error function of the number over the square root of two. -/
def geluE (v : F .f32) : F .f32 :=
  FloatOps.mulf (FloatOps.mulf (lit 0x3F000000#32) v)
    (FloatOps.addf (lit 0x3F800000#32) (FloatOps.erf (FloatOps.divf v (FloatOps.sqrt (lit 0x40000000#32)))))

end Scalars

/-- A normal float's value. -/
theorem lit_eq (b : BitVec 32) (h0 : (b.extractLsb' 23 8).toNat ≠ 0) (h1 : (b.extractLsb' 23 8).toNat ≠ 255) :
    (lit (F := Ideal) b : EReal) = (((if (b.extractLsb' 31 1 == 1#1) then (-1 : ℝ) else 1) * ((2 ^ 23 + (b.extractLsb' 0 23).toNat : Nat) : ℝ)
      * (2 : ℝ) ^ (((b.extractLsb' 23 8).toNat : Int) - 127 - 23) : ℝ) : EReal) := by
  show Ideal.ieee 8 23 b = _
  unfold Ideal.ieee
  simp only [Nat.reduceAdd, Nat.reducePow, Nat.reduceSub]
  rw [if_neg h1, if_neg h0]
  norm_num

theorem lit_of (b : BitVec 32) (r : ℝ) (h0 : (b.extractLsb' 23 8).toNat ≠ 0) (h1 : (b.extractLsb' 23 8).toNat ≠ 255) (s : ℝ) (k : ℕ) (e : ℤ)
    (hs : (if (b.extractLsb' 31 1 == 1#1) then (-1 : ℝ) else 1) = s) (hk : 2 ^ 23 + (b.extractLsb' 0 23).toNat = k)
    (he : ((b.extractLsb' 23 8).toNat : Int) - 127 - 23 = e) (h : s * (k : ℝ) * (2 : ℝ) ^ e = r) : (lit (F := Ideal) b : EReal) = (r : EReal) := by
  rw [lit_eq b h0 h1, hs, hk, he, h]

theorem lit_zero : (lit (F := Ideal) 0x00000000#32 : EReal) = ((0 : ℝ) : EReal) := Ideal.ofBits_zero_f32
theorem lit_n0 : (lit (F := Ideal) 0x3EFFFFFE#32 : EReal) = ((8388607 / 16777216 : ℝ) : EReal) :=
  lit_of _ _ (by decide) (by decide) (1) 16777214 (-25) (if_neg (by decide)) (by decide) (by decide) (by norm_num)
theorem lit_n1 : (lit (F := Ideal) 0x3EAE547C#32 : EReal) = ((2856223 / 8388608 : ℝ) : EReal) :=
  lit_of _ _ (by decide) (by decide) (1) 11424892 (-25) (if_neg (by decide)) (by decide) (by decide) (by norm_num)
theorem lit_n2 : (lit (F := Ideal) 0x3DDD0D5F#32 : EReal) = ((14486879 / 134217728 : ℝ) : EReal) :=
  lit_of _ _ (by decide) (by decide) (1) 14486879 (-27) (if_neg (by decide)) (by decide) (by decide) (by norm_num)
theorem lit_n3 : (lit (F := Ideal) 0x3C6C824D#32 : EReal) = ((15499853 / 1073741824 : ℝ) : EReal) :=
  lit_of _ _ (by decide) (by decide) (1) 15499853 (-30) (if_neg (by decide)) (by decide) (by decide) (by norm_num)
theorem lit_n4 : (lit (F := Ideal) 0x34763134#32 : EReal) = ((4033613 / 17592186044416 : ℝ) : EReal) :=
  lit_of _ _ (by decide) (by decide) (1) 16134452 (-46) (if_neg (by decide)) (by decide) (by decide) (by norm_num)
theorem lit_d0 : (lit (F := Ideal) 0x3F800000#32 : EReal) = ((1 : ℝ) : EReal) :=
  lit_of _ _ (by decide) (by decide) (1) 8388608 (-23) (if_neg (by decide)) (by decide) (by decide) (by norm_num)
theorem lit_d1 : (lit (F := Ideal) 0x3FBD4B16#32 : EReal) = ((6202763 / 4194304 : ℝ) : EReal) :=
  lit_of _ _ (by decide) (by decide) (1) 12405526 (-23) (if_neg (by decide)) (by decide) (by decide) (by norm_num)
theorem lit_d2 : (lit (F := Ideal) 0x3F6558F0#32 : EReal) = ((939407 / 1048576 : ℝ) : EReal) :=
  lit_of _ _ (by decide) (by decide) (1) 15030512 (-24) (if_neg (by decide)) (by decide) (by decide) (by norm_num)
theorem lit_d3 : (lit (F := Ideal) 0x3E8A3E58#32 : EReal) = ((1132491 / 4194304 : ℝ) : EReal) :=
  lit_of _ _ (by decide) (by decide) (1) 9059928 (-25) (if_neg (by decide)) (by decide) (by decide) (by norm_num)
theorem lit_d4 : (lit (F := Ideal) 0x3D14525E#32 : EReal) = ((4860207 / 134217728 : ℝ) : EReal) :=
  lit_of _ _ (by decide) (by decide) (1) 9720414 (-28) (if_neg (by decide)) (by decide) (by decide) (by norm_num)
theorem lit_cut : (lit (F := Ideal) 0x41580000#32 : EReal) = ((13.5 : ℝ) : EReal) :=
  lit_of _ _ (by decide) (by decide) (1) 14155776 (-20) (if_neg (by decide)) (by decide) (by decide) (by norm_num)
theorem lit_half : (lit (F := Ideal) 0x3F000000#32 : EReal) = ((1 / 2 : ℝ) : EReal) :=
  lit_of _ _ (by decide) (by decide) (1) 8388608 (-24) (if_neg (by decide)) (by decide) (by decide) (by norm_num)
theorem lit_two : (lit (F := Ideal) 0x40000000#32 : EReal) = ((2 : ℝ) : EReal) :=
  lit_of _ _ (by decide) (by decide) (1) 8388608 (-22) (if_neg (by decide)) (by decide) (by decide) (by norm_num)
theorem lit_mult : (lit (F := Ideal) 0xBF38AA3B#32 : EReal) = ((RealGelu.mult : ℝ) : EReal) :=
  lit_of _ _ (by decide) (by decide) (-1) 12102203 (-24) (if_pos (by decide)) (by decide) (by decide) (by unfold RealGelu.mult; norm_num)
theorem lit_tol : (lit (F := Ideal) 0x37000000#32 : EReal) = ((1 / 131072 : ℝ) : EReal) :=
  lit_of _ _ (by decide) (by decide) (1) 8388608 (-40) (if_neg (by decide)) (by decide) (by decide) (by norm_num)

/-- A size is the cut magnitude. -/
theorem size_coe (v : ℝ) : size (F := Ideal) (v : EReal) = (RealGelu.cut v : EReal) := by
  unfold size RealGelu.cut
  rw [lit_cut]
  show min (max (v : EReal) (-(v : EReal))) ((13.5 : ℝ) : EReal) = _
  push_cast
  rfl

theorem tailR_coe {u : ℝ} (h : 0 ≤ u) : tailR (F := Ideal) (u : EReal) = (RealGelu.T u : EReal) := by
  have hd : Quotient.den u ≠ 0 := by linarith [Quotient.den_ge_one h]
  have hn : numR (F := Ideal) (u : EReal) = (Quotient.num u : EReal) := by
    unfold numR poly fourth cube Gelu.sq
    rw [lit_n0, lit_n1, lit_n2, lit_n3, lit_n4]
    simp only [mulf_coe, addf_coe]
    rw [EReal.coe_eq_coe_iff]
    unfold Quotient.num
    ring
  have hd' : denR (F := Ideal) (u : EReal) = (Quotient.den u : EReal) := by
    unfold denR poly fourth cube Gelu.sq
    rw [lit_d0, lit_d1, lit_d2, lit_d3, lit_d4]
    simp only [mulf_coe, addf_coe]
    rw [EReal.coe_eq_coe_iff]
    unfold Quotient.den
    ring
  unfold tailR Gelu.sq
  rw [hn, hd', lit_mult, mulf_coe, mulf_coe, divf_coe _ _ hd, Exponent.exp2_coe, mulf_coe]
  rfl

theorem cut_nonneg (v : ℝ) : 0 ≤ RealGelu.cut v :=
  le_min (le_max_iff.mpr (by rcases le_total 0 v with h | h <;> [left; right] <;> linarith)) (by norm_num)

/-- The kernel's gelu of a real number. -/
theorem geluR_coe (v : ℝ) : geluR (F := Ideal) (v : EReal) = (RealGelu.near v : EReal) := by
  unfold geluR
  rw [← positive_part, size_coe, tailR_coe (cut_nonneg v), mulf_coe, lit_zero]
  show max (v : EReal) ((0 : ℝ) : EReal) - ((RealGelu.cut v * RealGelu.T (RealGelu.cut v) : ℝ) : EReal) = _
  unfold RealGelu.near
  push_cast
  rfl

theorem sqrt_two : FloatOps.sqrt (F := Ideal) (φ := .f32) (lit (F := Ideal) 0x40000000#32) = ((√2 : ℝ) : EReal) := by
  rw [lit_two]
  show Ideal.sqrt ((2 : ℝ) : EReal) = _
  rw [Ideal.sqrt_coe, if_neg (by norm_num)]

/-- The exact gelu of a real number. -/
theorem geluE_coe (v : ℝ) : geluE (F := Ideal) (v : EReal) = (RealGelu.exact v : EReal) := by
  unfold geluE
  rw [sqrt_two, divf_coe _ _ (by positivity), lit_half, lit_d0, mulf_coe]
  have e : FloatOps.erf (F := Ideal) (φ := .f32) ((v / √2 : ℝ) : EReal) = (RealGelu.erf (v / √2) : EReal) := rfl
  rw [e, addf_coe, mulf_coe]
  rfl

/-- The kernel's gelu and the exact one are equal, or real numbers at most 2^-17 apart. -/
theorem near (v : EReal) : geluR (F := Ideal) v = geluE (F := Ideal) v
    ∨ ∃ a b : ℝ, geluR (F := Ideal) v = (a : EReal) ∧ geluE (F := Ideal) v = (b : EReal) ∧ |a - b| ≤ 1 / 131072 := by
  have ht : size (F := Ideal) ⊤ = ((13.5 : ℝ) : EReal) := by
    unfold size
    rw [lit_cut]
    show min (max (⊤ : EReal) (-⊤)) ((13.5 : ℝ) : EReal) = _
    simp
  have hb : size (F := Ideal) ⊥ = ((13.5 : ℝ) : EReal) := by
    unfold size
    rw [lit_cut]
    show min (max (⊥ : EReal) (-⊥)) ((13.5 : ℝ) : EReal) = _
    simp
  have hd : ∀ x : EReal, FloatOps.divf (F := Ideal) (φ := .f32) x ((√2 : ℝ) : EReal) = x * (((√2)⁻¹ : ℝ) : EReal) := fun x => by
    have h2 : (√2 : ℝ) ≠ 0 := by positivity
    show Ideal.div x _ = _
    unfold Ideal.div
    rw [if_neg (by exact_mod_cast h2), ← EReal.coe_inv]
  have hi : (0 : ℝ) < (√2)⁻¹ := by positivity
  induction v with
  | coe v => exact Or.inr ⟨_, _, geluR_coe v, geluE_coe v, RealGelu.near_exact v⟩
  | top =>
    left
    have hR : geluR (F := Ideal) ⊤ = (⊤ : EReal) := by
      unfold geluR
      rw [← positive_part, ht, tailR_coe (by norm_num), mulf_coe]
      show max (⊤ : EReal) _ - _ = _
      rw [max_eq_left le_top]
      exact EReal.top_sub_coe _
    have hE : geluE (F := Ideal) ⊤ = (⊤ : EReal) := by
      unfold geluE
      rw [sqrt_two, hd, EReal.top_mul_coe_of_pos hi, lit_half, lit_d0]
      show ((1 / 2 : ℝ) : EReal) * ⊤ * (((1 : ℝ) : EReal) + 1) = ⊤
      rw [EReal.coe_mul_top_of_pos (by norm_num), ← EReal.coe_one, ← EReal.coe_add, EReal.top_mul_coe_of_pos (by norm_num)]
    rw [hR, hE]
  | bot =>
    right
    refine ⟨-(13.5 * RealGelu.T 13.5), 0, ?_, ?_, ?_⟩
    · unfold geluR
      rw [← positive_part, hb, tailR_coe (by norm_num), mulf_coe, lit_zero]
      show max (⊥ : EReal) ((0 : ℝ) : EReal) - _ = _
      rw [max_eq_right bot_le, ← EReal.coe_sub, zero_sub]
    · unfold geluE
      rw [sqrt_two, hd, EReal.bot_mul_coe_of_pos hi, lit_half, lit_d0]
      show ((1 / 2 : ℝ) : EReal) * ⊥ * (((1 : ℝ) : EReal) + -1) = _
      rw [← EReal.coe_one, ← EReal.coe_neg, ← EReal.coe_add, add_neg_cancel, EReal.coe_zero, mul_zero]
    · rw [sub_zero, abs_neg]
      exact RealGelu.T_last.trans (by norm_num)

end Cert.NearGelu

end
-- ==== Proof.ExactReadExact.lean ====
module

public import proofs.«01_k».proof.Proof.Gen.Linear1ExactIdeal.Frame
public import proofs.«01_k».proof.Proof.KernelRead
public import proofs.«01_k».proof.Proof.Linear1Meaning
public import proofs.«01_k».proof.Proof.NearGelu

@[expose] public section

set_option maxRecDepth 16384

/-! The exact first linear layer: its payload read at an index, over the extended reals, and the layer as a function of
    whole arrays. -/

noncomputable section

namespace Cert.Linear1ExactIdeal.ReadExact

open Idealize.ShloMosaic Idealize.ShloMosaic.ValueIdx
open Cert.Linear1ExactIdeal.Gen Cert.Layer1 Cert.Gelu
open Cert.KernelIdeal.Read (mulf_read addf_read)
open scoped BigOperators

/-- The layer with the exact gelu. -/
def layerE {M N K L : ℕ} [NeZero L] (h : (⟨2, ![M, N]⟩ : Shape).Idx → EReal) (hs : (⟨2, ![M, L]⟩ : Shape).Idx → EReal)
    (w : (⟨2, ![N, K]⟩ : Shape).Idx → EReal) (ws b : (⟨2, ![1, K]⟩ : Shape).Idx → EReal) : (⟨2, ![M, K]⟩ : Shape).Idx → EReal :=
  fun j => NearGelu.geluE (F := Ideal) (pre h hs w ws b (j 0) (j 1))

/-- What is activated. -/
def preV {F : FTy → Type} [FloatOps F] (h : Vec F S12288x12800 .fp8e4m3) (w : Vec F S12800x5120 .fp8e4m3) (hs : Vec F S12288x1 .f32)
    (ws b : Vec F S1x5120 .f32) : FVec F S12288x5120 .f32 :=
  addf (mulf (mulf (matmul dot_S12288x12800_S12800x5120_S12288x5120_1_0_0_1_n_n none h w (constant S12288x5120 .f32 0x00000000#32))
    (broadcastTo S12288x5120 hs broadcasts_S12288x1_S12288x5120))
    (broadcastTo S12288x5120 (shapeCast S1x5120 ws shapeCasts_S1x5120_S1x5120) broadcasts_S1x5120_S12288x5120))
    (broadcastTo S12288x5120 (shapeCast S1x5120 b shapeCasts_S1x5120_S1x5120) broadcasts_S1x5120_S12288x5120)

/-- The payload at an index: the activation of what the product left there. -/
theorem act_read {F : FTy → Type} [FloatOps F] (h : Vec F S12288x12800 .fp8e4m3) (w : Vec F S12800x5120 .fp8e4m3) (hs : Vec F S12288x1 .f32)
    (ws b : Vec F S1x5120 .f32) (y : S12288x5120.Idx) : k1_pay1 h w hs ws b y = NearGelu.geluE (preV h w hs ws b y) := rfl

/-- The rescaled product with its bias. -/
theorem pre_apply (h : Vec Ideal S12288x12800 .fp8e4m3) (w : Vec Ideal S12800x5120 .fp8e4m3) (hs : Vec Ideal S12288x128 .f32)
    (ws b : Vec Ideal S1x5120 .f32) (r : Fin 12288) (k : Fin 5120) :
    preV (F := Ideal) h w (View.ld hs r1_2) ws b (ix2 r k) = pre (M := 12288) (N := 12800) (K := 5120) (L := 128) h hs w ws b r k := by
  have e1 : (matmul (φ₁ := .fp8e4m3) (φ₂ := .fp8e4m3) dot_S12288x12800_S12800x5120_S12288x5120_1_0_0_1_n_n none
      h w (constant S12288x5120 .f32 0x00000000#32) : FVec Ideal S12288x5120 .f32) (ix2 r k) = ∑ i : Fin 12800, h (ix2 r i) * w (ix2 i k) := by
    refine (Ideal.matmul_plain_apply (M := 12288) (K := 12800) (N := 5120) none h w _ r k).trans ?_
    show Ideal.ofBits .f32 0x00000000#32 + _ = _
    rw [Ideal.ofBits_zero_f32, zero_add]
  have e2 : broadcastTo S12288x5120 (View.ld hs r1_2) broadcasts_S12288x1_S12288x5120 (ix2 r k) = hs (ix2 r 0) := by
    refine (broadcastTo_apply _ _ (ix2 r k) (ix2 r (0 : Fin 1)) (fun a => match a with | ⟨0, _⟩ => rfl | ⟨1, _⟩ => rfl)).trans ?_
    refine congrArg hs (funext fun a => Fin.ext ?_)
    refine (ValueKit.rect_emb_unit_val _ _ _ _ _).trans ?_
    match a with
    | ⟨0, _⟩ => exact Nat.zero_add _
    | ⟨1, _⟩ => rfl
  have e3 : ∀ v : Vec Ideal S1x5120 .f32, broadcastTo S12288x5120 (shapeCast S1x5120 v shapeCasts_S1x5120_S1x5120) broadcasts_S1x5120_S12288x5120 (ix2 r k) = v (ix2 0 k) := fun v => by
    rw [shapeCast_self]
    exact broadcastTo_apply _ _ (ix2 r k) (ix2 (0 : Fin 1) k) (fun a => match a with | ⟨0, _⟩ => rfl | ⟨1, _⟩ => rfl)
  unfold preV
  exact addf_read _ _ _ _ _ (mulf_read _ _ _ _ _ (mulf_read _ _ _ _ _ e1 e2) (e3 ws)) (e3 b)

theorem zeros : (![0, 0] : Fin 2 → Nat) = fun _ => 0 := funext fun a => match a with | ⟨0, _⟩ => rfl | ⟨1, _⟩ => rfl

/-- What the one point leaves in the output's buffer. -/
theorem out1_5_eq (h : Vec Ideal S12288x12800 .fp8e4m3) (hs : Vec Ideal S12288x128 .f32) (w : Vec Ideal S12800x5120 .fp8e4m3)
    (ws b : Vec Ideal S1x5120 .f32) : out1_5 (F := Ideal) h hs w ws b = layerE (M := 12288) (N := 12800) (K := 5120) (L := 128) h hs w ws b := by
  unfold out1_5
  rw [View.canon_unit_zero zeros, View.ld_unit_zero zeros, View.ld_unit_zero zeros, View.ld_unit_zero zeros, View.ld_unit_zero zeros]
  funext y
  rw [eq_ix2 y]
  refine (act_read h w (View.ld hs r1_2) ws b (ix2 (y 0) (y 1))).trans ?_
  exact congrArg (NearGelu.geluE (F := Ideal)) (pre_apply h w hs ws b (y 0) (y 1))

end Cert.Linear1ExactIdeal.ReadExact

end
-- ==== Proof.ExactValueExact.lean ====
module

public import proofs.«01_k».proof.Proof.ExactReadExact

@[expose] public section

set_option maxRecDepth 16384

/-! The exact first linear layer: its result array over the extended reals, as a function of the whole argument arrays. -/

noncomputable section

namespace Cert.Linear1ExactIdeal.ValExact

open Idealize.ShloMosaic Idealize.ShloMosaic.ValueIdx Idealize.ShloMosaic.TcCoe Idealize.SL.Sem
open Idealize.ShloMosaic.Pipeline (Dat Cfg Window)
open Cert.Linear1ExactIdeal.Gen Cert.Linear1ExactIdeal.ReadExact Cert.Layer1

-- what every buffer holds when the region is entered
variable (V : (c : Dev nD) → (b : Ref sig .tc) → Buf (Elt Ideal) ((c : Thread nD τ).loc b))

theorem index0 : ∀ t : Fin cfg1.N, win1_0.index t = ![0, 0] := (by decide +kernel : ∀ t : Fin grid1.N, _)
theorem index1 : ∀ t : Fin cfg1.N, win1_1.index t = ![0, 0] := (by decide +kernel : ∀ t : Fin grid1.N, _)
theorem index2 : ∀ t : Fin cfg1.N, win1_2.index t = ![0, 0] := (by decide +kernel : ∀ t : Fin grid1.N, _)
theorem index3 : ∀ t : Fin cfg1.N, win1_3.index t = ![0, 0] := (by decide +kernel : ∀ t : Fin grid1.N, _)
theorem index4 : ∀ t : Fin cfg1.N, win1_4.index t = ![0, 0] := (by decide +kernel : ∀ t : Fin grid1.N, _)
theorem index5 : ∀ t : Fin cfg1.N, win1_5.index t = ![0, 0] := (by decide +kernel : ∀ t : Fin grid1.N, _)

/-- The layer's codes and their scales, the weights' codes and scales and the bias, as the region finds them. -/
abbrev h (c : Dev nD) : S12288x12800.Idx → EReal := V c main_arg0
abbrev hs (c : Dev nD) : S12288x128.Idx → EReal := V c main_arg1
abbrev w (c : Dev nD) : S12800x5120.Idx → EReal := V c main_arg2
abbrev ws (c : Dev nD) : S1x5120.Idx → EReal := V c main_v3
abbrev b (c : Dev nD) : S1x5120.Idx → EReal := V c main_v4

/-! The one point's blocks are the arrays. -/

theorem iblk0_eq (c : Dev nD) (t : Fin cfg1.N) : iblk1 V c 0 t = h V c := funext fun y => by
  refine congrArg (h V c) ?_
  blk_ext [index0]
theorem iblk1_eq (c : Dev nD) (t : Fin cfg1.N) : iblk1 V c 1 t = hs V c := funext fun y => by
  refine congrArg (hs V c) ?_
  blk_ext [index1]
theorem iblk2_eq (c : Dev nD) (t : Fin cfg1.N) : iblk1 V c 2 t = w V c := funext fun y => by
  refine congrArg (w V c) ?_
  blk_ext [index2]
theorem iblk3_eq (c : Dev nD) (t : Fin cfg1.N) : iblk1 V c 3 t = ws V c := funext fun y => by
  refine congrArg (ws V c) ?_
  blk_ext [index3]
theorem iblk4_eq (c : Dev nD) (t : Fin cfg1.N) : iblk1 V c 4 t = b V c := funext fun y => by
  refine congrArg (b V c) ?_
  blk_ext [index4]

/-- The result's array is what the one point leaves in its buffer (stated of any proof data). -/
theorem covers5 (c : Dev nD) (D : Dat τ (Elt Ideal) Unit ℕ (UR sig nD τ) ℕ cfg1 c) (G : Vec Ideal S12288x5120 .f32)
    (h : ∀ t, D.after 5 t = G) : D.arrAt 5 cfg1.N = G := by
  refine D.arrAt_eq_of_covers 5 _ (by decide +kernel) fun t hf y => ?_
  have e : (win1_5.blk t).view.emb y = y := by
    blk_ext [index5]
  blk_simp
  rw [h]
  exact congrArg G e.symm

/-- The result after the run. -/
theorem final5 (c : Dev nD) : (dat1 V c).arrAt 5 cfg1.N
    = layerE (M := 12288) (N := 12800) (K := 5120) (L := 128) (h V c) (hs V c) (w V c) (ws V c) (b V c) :=
  covers5 c (dat1 V c) _ fun t => by rw [after1_5, iblk0_eq, iblk1_eq, iblk2_eq, iblk3_eq, iblk4_eq, out1_5_eq]

end Cert.Linear1ExactIdeal.ValExact

end
-- ==== Proof.ExactRun.lean ====
module

public import proofs.«01_k».proof.Proof.ExactValueKernel
public import proofs.«01_k».proof.Proof.ExactValueExact

@[expose] public section

/-! The run of the kernel's first linear layer and, after it, the exact one: both results named, and that they are near. -/

noncomputable section

namespace Cert.Linear1ExactIdeal.ValRun

open Idealize.ShloMosaic Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Linear1ExactIdeal.Gen Cert.Layer1 Cert.Linear1ExactIdeal.ReadExact

variable (m : (ℓ : Loc nD τ sig) → Buf (Elt Ideal) ℓ) (ρ : Dev nD → PrngReg)

local notation "𝕄" => MT nD τ sig Unit (Elt Ideal) ℕ (UR sig nD τ) ℕ

/-- A vector of 5120 numbers as the one row of a matrix. -/
abbrev asRow (v : Vec Ideal S5120 .f32) : Vec Ideal S1x5120 .f32 := shapeCast S1x5120 v shapeCasts_S5120_S1x5120

/-- The host operations before each of the two regions. -/
abbrev op0 : HloOp τ sig (Elt Ideal) := StableHlo.reshape main_arg3 main_v0 (rfl : (.f32 : EltTy) = .f32) shapeCasts_S5120_S1x5120
abbrev op1 : HloOp τ sig (Elt Ideal) := StableHlo.reshape main_arg4 main_v1 (rfl : (.f32 : EltTy) = .f32) shapeCasts_S5120_S1x5120
abbrev op2 : HloOp τ sig (Elt Ideal) := StableHlo.reshape main_arg3 main_v3 (rfl : (.f32 : EltTy) = .f32) shapeCasts_S5120_S1x5120
abbrev op3 : HloOp τ sig (Elt Ideal) := StableHlo.reshape main_arg4 main_v4 (rfl : (.f32 : EltTy) = .f32) shapeCasts_S5120_S1x5120

/-- The weights' scales, as the first region finds them: the argument reshaped. -/
theorem row_v0 (W : Valuation τ sig (Elt Ideal)) : StableHlo.after (hostOps0 (F := Ideal)) W main_v0 = asRow (W main_arg3) := by
  have h1 : op1.result (op0.result W) main_v0 = op0.result W main_v0 :=
    StableHlo.reshape_result_ne main_arg4 main_v1 _ _ _ _ (op0.result W) (r := main_v0) (by decide)
  have h0 : op0.result W main_v0 = asRow (W main_arg3) :=
    (StableHlo.reshape_result (Val := Elt Ideal) main_arg3 main_v0 rfl shapeCasts_S5120_S1x5120 _ _ W).trans rfl
  exact h1.trans h0

/-- The bias, as the first region finds it: the argument reshaped. -/
theorem row_v1 (W : Valuation τ sig (Elt Ideal)) : StableHlo.after (hostOps0 (F := Ideal)) W main_v1 = asRow (W main_arg4) := by
  have h1 : op1.result (op0.result W) main_v1 = asRow (op0.result W main_arg4) :=
    (StableHlo.reshape_result (Val := Elt Ideal) main_arg4 main_v1 rfl shapeCasts_S5120_S1x5120 _ _ (op0.result W)).trans rfl
  have h0 : op0.result W main_arg4 = W main_arg4 :=
    StableHlo.reshape_result_ne main_arg3 main_v0 _ _ _ _ W (r := main_arg4) (by decide)
  exact h1.trans (congrArg asRow h0)

/-- The weights' scales, as the second region finds them: the argument reshaped. -/
theorem row_v3 (W : Valuation τ sig (Elt Ideal)) : StableHlo.after (hostOps1 (F := Ideal)) W main_v3 = asRow (W main_arg3) := by
  have h1 : op3.result (op2.result W) main_v3 = op2.result W main_v3 :=
    StableHlo.reshape_result_ne main_arg4 main_v4 _ _ _ _ (op2.result W) (r := main_v3) (by decide)
  have h0 : op2.result W main_v3 = asRow (W main_arg3) :=
    (StableHlo.reshape_result (Val := Elt Ideal) main_arg3 main_v3 rfl shapeCasts_S5120_S1x5120 _ _ W).trans rfl
  exact h1.trans h0

/-- The bias, as the second region finds it: the argument reshaped. -/
theorem row_v4 (W : Valuation τ sig (Elt Ideal)) : StableHlo.after (hostOps1 (F := Ideal)) W main_v4 = asRow (W main_arg4) := by
  have h1 : op3.result (op2.result W) main_v4 = asRow (op2.result W main_arg4) :=
    (StableHlo.reshape_result (Val := Elt Ideal) main_arg4 main_v4 rfl shapeCasts_S5120_S1x5120 _ _ (op2.result W)).trans rfl
  have h0 : op2.result W main_arg4 = W main_arg4 :=
    StableHlo.reshape_result_ne main_arg3 main_v3 _ _ _ _ W (r := main_arg4) (by decide)
  exact h1.trans (congrArg asRow h0)

/-- The kernel's layer ends in its buffer: the exact layer's run does not touch it. -/
theorem W4_v2 (c : Dev nD) : W4 m ρ c main_v2 = layer (M := 12288) (N := 12800) (K := 5120) (L := 128) (m ((c : Thread nD τ).loc main_arg0)) (m ((c : Thread nD τ).loc main_arg1)) (m ((c : Thread nD τ).loc main_arg2))
        (asRow (m ((c : Thread nD τ).loc main_arg3))) (asRow (m ((c : Thread nD τ).loc main_arg4))) := by
  refine (W4_of_ne m ρ c main_v2 (by decide)).trans ((W3_of m ρ c main_v2 (by decide)).trans ((W2_arr m ρ c 5).trans ((ValKernel.final5 (V1 m ρ) c).trans ?_)))
  have e0 : V1 m ρ c main_arg0 = m ((c : Thread nD τ).loc main_arg0) := W1_args m ρ c main_arg0 (by decide)
  have e1 : V1 m ρ c main_arg1 = m ((c : Thread nD τ).loc main_arg1) := W1_args m ρ c main_arg1 (by decide)
  have e2 : V1 m ρ c main_arg2 = m ((c : Thread nD τ).loc main_arg2) := W1_args m ρ c main_arg2 (by decide)
  have e3 : V1 m ρ c main_v0 = asRow (m ((c : Thread nD τ).loc main_arg3)) := row_v0 (W0 m ρ c)
  have e4 : V1 m ρ c main_v1 = asRow (m ((c : Thread nD τ).loc main_arg4)) := row_v1 (W0 m ρ c)
  unfold ValKernel.h ValKernel.hs ValKernel.w ValKernel.ws ValKernel.b
  rw [e0, e1, e2, e3, e4]

/-- The exact layer ends in its own. -/
theorem W4_v5 (c : Dev nD) : W4 m ρ c main_v5 = layerE (M := 12288) (N := 12800) (K := 5120) (L := 128) (m ((c : Thread nD τ).loc main_arg0)) (m ((c : Thread nD τ).loc main_arg1)) (m ((c : Thread nD τ).loc main_arg2))
        (asRow (m ((c : Thread nD τ).loc main_arg3))) (asRow (m ((c : Thread nD τ).loc main_arg4))) := by
  refine (W4_arr m ρ c 5).trans ((ValExact.final5 (V3 m ρ) c).trans ?_)
  have e0 : V3 m ρ c main_arg0 = m ((c : Thread nD τ).loc main_arg0) := W3_args m ρ c main_arg0 (by decide)
  have e1 : V3 m ρ c main_arg1 = m ((c : Thread nD τ).loc main_arg1) := W3_args m ρ c main_arg1 (by decide)
  have e2 : V3 m ρ c main_arg2 = m ((c : Thread nD τ).loc main_arg2) := W3_args m ρ c main_arg2 (by decide)
  have e3 : V3 m ρ c main_v3 = asRow (m ((c : Thread nD τ).loc main_arg3)) :=
    (row_v3 (W2 m ρ c)).trans (congrArg asRow (W2_args m ρ c main_arg3 (by decide)))
  have e4 : V3 m ρ c main_v4 = asRow (m ((c : Thread nD τ).loc main_arg4)) :=
    (row_v4 (W2 m ρ c)).trans (congrArg asRow (W2_args m ρ c main_arg4 (by decide)))
  unfold ValExact.h ValExact.hs ValExact.w ValExact.ws ValExact.b
  rw [e0, e1, e2, e3, e4]

-- the launch theorem's implicit arguments are found by unifying its conclusion with this one, which takes unfolding
-- plain definitions in a metavariable's type
set_option backward.isDefEq.respectTransparency.types false in
/-- The run: the kernel's layer, the exact one, and the arguments as they were. -/
theorem run : θ_run defs (onTc (τ := τ) (main (F := Ideal))) ⟨m, fun _ => 0, ρ⟩ (fun r => ∀ c : Dev nD,
      r.2.mem ((c.tc : Thread nD τ).loc main_v2) = layer (M := 12288) (N := 12800) (K := 5120) (L := 128) (m ((c : Thread nD τ).loc main_arg0)) (m ((c : Thread nD τ).loc main_arg1)) (m ((c : Thread nD τ).loc main_arg2))
        (asRow (m ((c : Thread nD τ).loc main_arg3))) (asRow (m ((c : Thread nD τ).loc main_arg4)))
      ∧ r.2.mem ((c.tc : Thread nD τ).loc main_v5) = layerE (M := 12288) (N := 12800) (K := 5120) (L := 128) (m ((c : Thread nD τ).loc main_arg0)) (m ((c : Thread nD τ).loc main_arg1)) (m ((c : Thread nD τ).loc main_arg2))
        (asRow (m ((c : Thread nD τ).loc main_arg3))) (asRow (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => (fun c =>
      ⟨(h c _ (mem_uc main_v2 (by decide))).trans (W4_v2 m ρ c),
       (h c _ (mem_uc main_v5 (by decide))).trans (W4_v5 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩))

end Cert.Linear1ExactIdeal.ValRun

end
-- ==== Proof.ExactNear.lean ====
module

public import proofs.«01_k».proof.Defs
public import proofs.«01_k».proof.Proof.ExactRun

@[expose] public section

/-! The kernel's first layer and the exact one are near: the predicate reads 1 at every index. -/

noncomputable section

namespace Cert.Linear1ExactIdeal.Near

open Idealize.ShloMosaic Idealize.ShloMosaic.TcCoe Idealize.SL.Sem
open Cert.Layer1 Cert.Linear1ExactIdeal.ReadExact

/-- The shape relation the predicate's function states. -/
theorem facts : Cert.Post_near_exact.Facts := ⟨by decide⟩

/-- Two numbers are equal, or their difference's magnitude is at most the tolerance. -/
def bit (x y : EReal) : BitVec 1 :=
  IntOp.ori (FloatOps.cmpf (F := Ideal) (φ := .f32) .oeq x y)
    (FloatOps.cmpf (F := Ideal) (φ := .f32) .ole (FloatOps.absf (F := Ideal) (φ := .f32) (FloatOps.subf (F := Ideal) (φ := .f32) x y)) (Scalar.ofBits (F := Ideal) .f32 0x37000000#32))

/-- The function's value at an index. -/
theorem fn_apply [Cert.Post_near_exact.Facts] (a0 : FVec Ideal Cert.Post_near_exact.S12288x12800 .fp8e4m3) (a1 : FVec Ideal Cert.Post_near_exact.S12288x128 .f32)
    (a2 : FVec Ideal Cert.Post_near_exact.S12800x5120 .fp8e4m3) (a3 a4 : FVec Ideal Cert.Post_near_exact.S5120 .f32)
    (x y : FVec Ideal Cert.Post_near_exact.S12288x5120 .f32) (j : Cert.Post_near_exact.S12288x5120.Idx) :
    Cert.Post_near_exact.fn (F := Ideal) a0 a1 a2 a3 a4 x y j = bit (x j) (y j) := rfl

/-- A comparison that holds reads 1. -/
theorem cmpf_le {x y : EReal} (h : x ≤ y) : FloatOps.cmpf (F := Ideal) (φ := .f32) .ole x y = 1#1 := by
  show BitVec.ofBool (decide (x ≤ y)) = 1#1
  rw [decide_eq_true h]; rfl

/-- A number equals itself. -/
theorem cmpf_eq (x : EReal) : FloatOps.cmpf (F := Ideal) (φ := .f32) .oeq x x = 1#1 := by
  show BitVec.ofBool (decide (x = x)) = 1#1
  rw [decide_eq_true rfl]; rfl

/-- The bit of the two activations of one number. -/
theorem bit_gelu (v : EReal) : bit (Gelu.geluR (F := Ideal) v) (NearGelu.geluE (F := Ideal) v) = 1#1 := by
  unfold bit
  rcases NearGelu.near v with h | ⟨a, b, ha, hb, hab⟩
  · rw [h, cmpf_eq]
    exact (by decide : ∀ z : BitVec 1, IntOp.ori 1#1 z = 1#1) _
  · rw [ha, hb]
    have hs : FloatOps.subf (F := Ideal) (φ := .f32) (a : EReal) (b : EReal) = ((a - b : ℝ) : EReal) := (EReal.coe_sub a b).symm
    have hx : FloatOps.absf (F := Ideal) (φ := .f32) ((a - b : ℝ) : EReal) = ((|a - b| : ℝ) : EReal) := by
      show max ((a - b : ℝ) : EReal) (-((a - b : ℝ) : EReal)) = _
      rw [← EReal.coe_neg, abs_eq_max_neg]
      exact (EReal.coe_strictMono.monotone.map_max).symm
    have ht : (Scalar.ofBits (F := Ideal) .f32 0x37000000#32 : EReal) = ((1 / 131072 : ℝ) : EReal) := NearGelu.lit_tol
    rw [hs, hx, ht, cmpf_le (EReal.coe_le_coe_iff.mpr hab)]
    exact (by decide : ∀ z : BitVec 1, IntOp.ori z 1#1 = 1#1) _

/-- The claim: the run leaves the arguments as they were, and the two results near at every index. -/
theorem holds : Cert.holds_Linear1ExactIdeal_near_exact (hLinear1ExactIdeal := Cert.Linear1ExactIdeal.Gen.facts) (hPost_near_exact := facts) := by
  intro m g _
  haveI := facts
  refine (θ_run _ _ _).mono (fun r h c => ?_) (Cert.Linear1ExactIdeal.ValRun.run m g)
  obtain ⟨h2, h5, h0, h1, h3, h4, h6⟩ := h c
  refine ⟨h0, h1, h3, h4, h6, ?_⟩
  rw [h2, h5]
  funext j
  rw [fn_apply]
  exact bit_gelu _

end Cert.Linear1ExactIdeal.Near

end
-- ==== Proof.RunA.lean ====
module

public import proofs.«01_k».proof.Proof.Point
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S512x5120 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x5120 .fp8e4m3) (harg7 : arg7.IsWhole) (arg8 : Memref sig .tc .vmem S512x128 .f32) (harg8 : arg8.IsWhole) (arg9 : Memref sig .tc .vmem S512x128 .f32) (harg9 : arg9.IsWhole) (hc0 : cond0_0 i)
    (x0 : Vec F S512x5120 .f32) (x1 : Vec F S5120x512 .fp8e4m3) (x2 : Vec F S1x512 .f32) (x3 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (prod (codes x0) (scratch x0) x1 x2 x3) ∗ owns (c : Thread nD τ) arg7 fullShare (codes x0) ∗ owns (c : Thread nD τ) arg8 fullShare (scales x0) ∗ owns (c : Thread nD τ) arg9 fullShare (scratch x0)) -∗ K ⟨⟩))
          ⊢ wp frame (wpE (defs₀ (F := F)) Variants.none c none) E (cc0_quant_linear2 i arg2 harg2 arg3 harg3 arg4 harg4 arg5 harg5 arg6 harg6 arg7 harg7 arg8 harg8 arg9 harg9) K := by
    intro E K
    simp only [cc0_quant_linear2_eq_skeleton]; unfold cc0_quant_linear2_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    have h0 := View.readAt_full arg2.view (harg2.unread x0) inb_S512x5120_S512x5120_0_0
    have h1 := View.readAt_full arg3.view (harg3.unread x1) inb_S5120x512_S5120x512_0_0
    have h2 := View.readAt_full arg4.view (harg4.unread x2) inb_S1x512_S1x512_0_0
    have h3 := View.readAt_full arg5.view (harg5.unread x3) inb_S1x512_S1x512_0_0
    rw [harg2.read_unread] at h0; rw [harg3.read_unread] at h1; rw [harg4.read_unread] at h2; rw [harg5.read_unread] at h3
    have e3 : runA.sl.r_3 c arg2 harg2 x0 = isOne x0 := by
      unfold runA.sl.r_3 runA.sl.r runA.sl.r_1 runA.sl.r_2; rw [h0]; rfl
    have e4 : runA.sl.r_4 c arg2 harg2 x0 = expo x0 := by
      unfold runA.sl.r_4 runA.sl.r runA.sl.r_1 runA.sl.r_2; rw [h0]; rfl
    have eq : runA.sl.H5_1 c arg2 harg2 x0
        = [⟨Rect.unit (s := S512x5120) ![0, 0] S512x5120.size inb_S512x5120_S512x5120_0_0, codes x0⟩] := by
      unfold runA.sl.H5_1; rw [e3, e4]
      exact congrArg (fun y => [(⟨Rect.unit (s := S512x5120) ![0, 0] S512x5120.size inb_S512x5120_S512x5120_0_0, k0_pay4 (isOne x0) (expo x0) y⟩ : View.Piece (Elt F) S512x5120 .fp8e4m3)]) h0
    have es : runA.sl.HS0_1 c arg2 harg2 x0
        = [⟨Rect.unit (s := S512x128) ![0, 0] S512x128.size inb_S512x128_S512x128_0_0, scratch x0⟩] := by
      unfold runA.sl.HS0_1; rw [e3, e4]; rfl
    have e3' : runA.sl.v3 c arg2 harg2 arg7 x0 = codes x0 := by
      unfold runA.sl.v3; rw [eq]
      exact View.readCov_full arg7.view inb_S512x5120_S512x5120_0_0 inb_S512x5120_S512x5120_0_0 (codes x0) []
    have e7 : runA.sl.v7 c arg2 harg2 arg9 x0
        = fun j => scratch x0 ((Rect.unit (s := S512x128) ![0, 0] S512x1.size inb_S512x128_S512x1_0_0).emb j) := by
      unfold runA.sl.v7; rw [es]
      funext j
      exact congrFun (View.read_writes_full arg9.view arg9.view.junk inb_S512x128_S512x128_0_0 (scratch x0) []) ((Rect.unit (s := S512x128) ![0, 0] S512x1.size inb_S512x128_S512x1_0_0).emb j)
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      refine (View.read_writes_full arg6.view f4 inb_S512x512_S512x512_0_0 _ []).trans ?_
      rw [e3', e7]
      exact congr (congr (congrArg (fun w => k0_pay5 (codes x0) w (fun j => scratch x0 ((Rect.unit (s := S512x128) ![0, 0] S512x1.size inb_S512x128_S512x1_0_0).emb j))) h1) h2) h3
    isplitl [H5]
    · iexists _; isplitr; swap; · iexact H5
      ipureintro; rw [eq]
      exact View.read_writes_full arg7.view f5 inb_S512x5120_S512x5120_0_0 _ []
    isplitl [H6]
    · iexists _; isplitr; swap; · iexact H6
      ipureintro; rw [e3, e4]
      exact View.read_writes_full arg8.view f6 inb_S512x128_S512x128_0_0 (scales x0) []
    iexists _; isplitr; swap; · iexact HS0
    ipureintro; rw [es]
    exact View.read_writes_full arg9.view fs0 inb_S512x128_S512x128_0_0 _ []

end Cert.KernelIdeal.Run

end
-- ==== Proof.RunB.lean ====
module

public import proofs.«01_k».proof.Proof.Point
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S512x5120 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x5120 .fp8e4m3) (harg7 : arg7.IsWhole) (arg8 : Memref sig .tc .vmem S512x128 .f32) (harg8 : arg8.IsWhole) (arg9 : Memref sig .tc .vmem S512x128 .f32) (harg9 : arg9.IsWhole) (hc0 : ¬cond0_0 i)
    (x0 : Vec F S512x5120 .f32) (x1 : Vec F S5120x512 .fp8e4m3) (x2 : Vec F S1x512 .f32) (x3 : Vec F S1x512 .f32) (q : Vec F S512x5120 .fp8e4m3) (g s : Vec F S512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare q ∗ owns (c : Thread nD τ) arg8 fullShare g ∗ owns (c : Thread nD τ) arg9 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (prod q s x1 x2 x3) ∗ owns (c : Thread nD τ) arg7 fullShare q ∗ owns (c : Thread nD τ) arg8 fullShare g ∗ owns (c : Thread nD τ) arg9 fullShare s) -∗ K ⟨⟩))
          ⊢ wp frame (wpE (defs₀ (F := F)) Variants.none c none) E (cc0_quant_linear2 i arg2 harg2 arg3 harg3 arg4 harg4 arg5 harg5 arg6 harg6 arg7 harg7 arg8 harg8 arg9 harg9) K := by
    intro E K
    simp only [cc0_quant_linear2_eq_skeleton]; unfold cc0_quant_linear2_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0
    sl_exec (disch := first | sl_exact hc0)
    sl_step
    iapply Hk
    have h5 := View.readAt_full arg7.view (harg7.unread q) inb_S512x5120_S512x5120_0_0
    have h1 := View.readAt_full arg3.view (harg3.unread x1) inb_S5120x512_S5120x512_0_0
    have h2 := View.readAt_full arg4.view (harg4.unread x2) inb_S1x512_S1x512_0_0
    have h3 := View.readAt_full arg5.view (harg5.unread x3) inb_S1x512_S1x512_0_0
    rw [harg7.read_unread] at h5; rw [harg3.read_unread] at h1; rw [harg4.read_unread] at h2; rw [harg5.read_unread] at h3
    have hs : View.readAt (Elt F) arg9.view (Rect.unit (s := S512x128) ![0, 0] S512x1.size inb_S512x128_S512x1_0_0).toLoadRect (harg9.unread s)
        = fun j => s ((Rect.unit (s := S512x128) ![0, 0] S512x1.size inb_S512x128_S512x1_0_0).emb j) := by
      funext j; exact congrFun hfs0 _
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; rw [h5, h1, h2, h3, hs]
      exact View.read_writes_full arg6.view f4 inb_S512x512_S512x512_0_0 _ []
    isplitl [H5]
    · iexists _; isplitr; · ipureintro; exact hf5
      iexact H5
    isplitl [H6]
    · iexists _; isplitr; · ipureintro; exact hf6
      iexact H6
    iexists _; isplitr; swap; · iexact HS0
    ipureintro; exact hfs0

end Cert.KernelIdeal.Run

end
-- ==== Proof.Run.lean ====
module

public import proofs.«01_k».proof.Proof.RunA
public import proofs.«01_k».proof.Proof.RunB
public import Idealize.ShloMosaic.Lib.Claim

@[expose] public section

set_option maxRecDepth 16384

/-! The kernel's run over the whole grid: what every buffer holds point by point, the body at a generic point, the frame. -/

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The invariant before point `k`: at the start of a row of blocks the scratch at anything; within the row at the
    row's scales, which point `k - 1` left or kept. -/
def Phi (c : Dev nD) (k : ℕ) (h : k ≤ cfg0.N) : sProp 𝕄 :=
  if h0 : k % 10 = 0 then Pipeline.ΦA spec0 c
  else iprop(owns (c : Thread nD τ) scM0_0 fullShare (scratch (iblk m c 0 ⟨k - 1, by omega⟩)) ∗ (∃ r, prngReg c r))

/-- The proof data: the inputs at their blocks, the codes and scales of the point's row of blocks, and the product's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prod (codes (iblk m c 0 t)) (scratch (iblk m c 0 t)) (iblk m c 1 t) (iblk m c 2 t) (iblk m c 3 t)
    | ⟨5, _⟩ => codes (iblk m c 0 t)
    | ⟨6, _⟩ => scales (iblk m c 0 t)
  Φ k := Phi m c k.val (Nat.le_of_lt_succ k.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = prod (codes (iblk m c 0 t)) (scratch (iblk m c 0 t)) (iblk m c 1 t) (iblk m c 2 t) (iblk m c 3 t) := by dsimp only [dats]
theorem after0_5 (c : Dev nD) (t : Fin cfg0.N) : (dats m 0 c).after 5 t = codes (iblk m c 0 t) := by dsimp only [dats]
theorem after0_6 (c : Dev nD) (t : Fin cfg0.N) : (dats m 0 c).after 6 t = scales (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Within a row of blocks -/

/-- The point before `t`. -/
abbrev prev (t : Fin cfg0.N) : Fin cfg0.N := ⟨t.val - 1, Nat.lt_of_le_of_lt (Nat.sub_le _ _) t.isLt⟩

/-- Within a row the activations' block does not move. -/
theorem iblk0_prev (c : Dev nD) (t : Fin cfg0.N) (h : t.val % 10 ≠ 0) : iblk m c 0 (prev t) = iblk m c 0 t := by
  have hf : (cfg0.win 0).fetch t = false := Bool.eq_false_iff.mpr fun hf => h ((fetch0_0 t).mp hf)
  rw [← before0_0 m c t (iblk m c 0 t), (dats m 0 c).before_unfetched_in 0 rfl t hf (fun _ => rfl)]
  unfold Dat.kept
  dsimp only [dats]
  rfl

/-- Windows 5 and 6 are idle exactly off the points that quantise. -/
theorem idle5 (t : Fin cfg0.N) : cfg0.idle 5 (grid0.coords t) = !decide (t.val % 10 = 0) := by
  have hc := hcond0_0 t
  show (!(k0_cond1 (grid0.coords t) == 1#1)) = _
  by_cases h : t.val % 10 = 0
  · rw [show k0_cond1 (grid0.coords t) = 1#1 from hc.mpr h]; simp [h]
  · have : k0_cond1 (grid0.coords t) ≠ 1#1 := fun e => h (hc.mp e)
    simp [h, this]
theorem idle6 (t : Fin cfg0.N) : cfg0.idle 6 (grid0.coords t) = !decide (t.val % 10 = 0) := idle5 t

/-- Past the quantising point of a row, window 5's buffer holds the row's codes; -/
theorem before0_5 (c : Dev nD) : ∀ (n : ℕ) (t : Fin cfg0.N), t.val = n → t.val % 10 ≠ 0 → ∀ d,
    (dats m 0 c).before 5 t d = codes (iblk m c 0 t) := by
  intro n
  induction n with
  | zero => intro t ht h; rw [ht] at h; exact absurd rfl h
  | succ n ih =>
    intro t ht h d
    have hfl : (cfg0.win 5).flush (prev t) = false := Bool.eq_false_iff.mpr fun hf => by
      have : (t.val - 1) % 10 = 9 := (flush0_5 (prev t)).mp hf
      omega
    rw [(dats m 0 c).before_of_pos 5 t (by omega) ((cfg0.win 5).fetch_out rfl t), hfl, if_neg Bool.false_ne_true,
      ← iblk0_prev m c t h]
    unfold Dat.left
    by_cases hp : (prev t).val % 10 = 0
    · rw [idle5 (prev t), decide_eq_true hp]
      dsimp only [Bool.not_true]
      unfold Dat.kept
      rw [after0_5]; rfl
    · rw [idle5 (prev t), decide_eq_false hp]
      dsimp only [Bool.not_false]
      exact ih (prev t) (by show t.val - 1 = n; omega) hp d
/-- and window 6's its scales. -/
theorem before0_6 (c : Dev nD) : ∀ (n : ℕ) (t : Fin cfg0.N), t.val = n → t.val % 10 ≠ 0 → ∀ d,
    (dats m 0 c).before 6 t d = scales (iblk m c 0 t) := by
  intro n
  induction n with
  | zero => intro t ht h; rw [ht] at h; exact absurd rfl h
  | succ n ih =>
    intro t ht h d
    have hfl : (cfg0.win 6).flush (prev t) = false := Bool.eq_false_iff.mpr fun hf => by
      have : (t.val - 1) % 10 = 9 := (flush0_6 (prev t)).mp hf
      omega
    rw [(dats m 0 c).before_of_pos 6 t (by omega) ((cfg0.win 6).fetch_out rfl t), hfl, if_neg Bool.false_ne_true,
      ← iblk0_prev m c t h]
    unfold Dat.left
    by_cases hp : (prev t).val % 10 = 0
    · rw [idle6 (prev t), decide_eq_true hp]
      dsimp only [Bool.not_true]
      unfold Dat.kept
      rw [after0_6]; rfl
    · rw [idle6 (prev t), decide_eq_false hp]
      dsimp only [Bool.not_false]
      exact ih (prev t) (by show t.val - 1 = n; omega) hp d

/-- Handing back the codes and the scales: at a quantising point as stored, later in the row as found. -/
theorem leaves5 (c : Dev nD) (t : Fin cfg0.N) :
    owns (c : Thread nD τ) (ms0_5 t) fullShare (codes (iblk m c 0 t)) ⊢ (dats m 0 c).leavesExact 5 t := by
  unfold Dat.leavesExact
  rw [idle5 t]
  by_cases h : t.val % 10 = 0
  · rw [decide_eq_true h]; dsimp only [Bool.not_true]; rw [after0_5]; exact .rfl
  · rw [decide_eq_false h, Bool.not_false]
    cases (cfg0.win 5).flush t
    · dsimp only
      iintro H; iexists (codes (iblk m c 0 t)); rw [before0_5 m c t.val t rfl h]; iexact H
    · exact .rfl
theorem leaves6 (c : Dev nD) (t : Fin cfg0.N) :
    owns (c : Thread nD τ) (ms0_6 t) fullShare (scales (iblk m c 0 t)) ⊢ (dats m 0 c).leavesExact 6 t := by
  unfold Dat.leavesExact
  rw [idle6 t]
  by_cases h : t.val % 10 = 0
  · rw [decide_eq_true h]; dsimp only [Bool.not_true]; rw [after0_6]; exact .rfl
  · rw [decide_eq_false h, Bool.not_false]
    cases (cfg0.win 6).flush t
    · dsimp only
      iintro H; iexists (scales (iblk m c 0 t)); rw [before0_6 m c t.val t rfl h]; iexact H
    · exact .rfl

/-- The invariant after a point, from the row's scales in the scratch. -/
theorem Phi_succ (c : Dev nD) (t : Fin cfg0.N) :
    iprop(owns (c : Thread nD τ) scM0_0 fullShare (scratch (iblk m c 0 t)) ∗ (∃ r, prngReg c r)) ⊢ (dats m 0 c).Φ t.succ := by
  show _ ⊢ Phi m c (t.val + 1) t.isLt
  unfold Phi
  split
  · rw [PhiA0_eq]
    iintro ⟨H, Hg⟩
    isplitl [H]
    · iexists _; iexact H
    iexact Hg
  · exact .rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  have hin : (dats m 0 c).Φ t.castSucc = Phi m c t.val (Nat.le_of_lt t.isLt) := rfl
  rw [hin]
  by_cases h0 : t.val % 10 = 0
  · rw [show Phi m c t.val (Nat.le_of_lt t.isLt) = Pipeline.ΦA spec0 c from dif_pos h0, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, H4, H5, H6, HS0⟩
    isplitl [HS0 Hg]
    · iapply (Phi_succ m c t)
      isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t); iexact H5
    iapply (leaves6 m c t); iexact H6
  · have e : Phi m c t.val (Nat.le_of_lt t.isLt)
        = iprop(owns (c : Thread nD τ) scM0_0 fullShare (scratch (iblk m c 0 t)) ∗ (∃ r, prngReg c r)) := by
      rw [← iblk0_prev m c t h0]; exact dif_neg h0
    rw [e]
    simp only [before0_5 m c t.val t rfl h0, before0_6 m c t.val t rfl h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ (fun h => h0 ((hcond0_0 t).mp h)) (iblk m c 0 t) (iblk m c 1 t) (iblk m c 2 t) (iblk m c 3 t) (codes (iblk m c 0 t)) (scales (iblk m c 0 t)) (scratch (iblk m c 0 t))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    iintro ⟨H0, H1, H2, H3, H4, H5, H6, HS0⟩
    isplitl [HS0 Hg]
    · iapply (Phi_succ m c t)
      isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t); iexact H5
    iapply (leaves6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant's ends. -/
theorem Phi_first (c : Dev nD) : (dats m 0 c).Φ 0 = Pipeline.ΦA spec0 c := by
  show Phi m c 0 (Nat.zero_le _) = _
  exact dif_pos rfl
theorem Phi_last (c : Dev nD) : (dats m 0 c).Φ (Fin.last cfg0.N) = Pipeline.ΦA spec0 c := by
  show Phi m c cfg0.N (Nat.le_refl _) = _
  exact dif_pos (by rw [show cfg0.N = 240 from N_0])

set_option backward.isDefEq.respectTransparency.types false in
/-- The launch: the pipeline's arrays end at what the write-backs left, every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Entails.of_eq (Phi_first m c).symm) (hout := fun c => Entails.of_eq (Phi_last m c))

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.KernelValue.lean ====
module

public import proofs.«01_k».proof.Proof.Run
public import proofs.«01_k».proof.Proof.KernelRead

@[expose] public section

set_option maxRecDepth 16384

/-! The kernel's three result arrays over the extended reals, when every activation's magnitude is at most the greatest
    finite float: the scales, the codes and the rescaled product as functions of the whole argument arrays. -/

noncomputable section

namespace Cert.KernelIdeal.Val

open Idealize.ShloMosaic Idealize.ShloMosaic.ValueIdx Idealize.ShloMosaic.TcCoe
open Idealize.ShloMosaic.Pipeline (Dat Cfg Window)
open Cert.KernelIdeal.Gen Cert.KernelIdeal.Run Cert.KernelIdeal.Read Cert.Meaning
open scoped BigOperators

variable (m : (ℓ : Loc nD τ sig) → Buf (Elt Ideal) ℓ)

/-- The blocks' indices at a point. -/
theorem index0 : ∀ t : Fin cfg0.N, win0_0.index t = ![t.val / 10, 0] := (by decide +kernel : ∀ t : Fin grid0.N, _)
theorem index1 : ∀ t : Fin cfg0.N, win0_1.index t = ![0, t.val % 10] := (by decide +kernel : ∀ t : Fin grid0.N, _)
theorem index2 : ∀ t : Fin cfg0.N, win0_2.index t = ![0, t.val % 10] := (by decide +kernel : ∀ t : Fin grid0.N, _)
theorem index3 : ∀ t : Fin cfg0.N, win0_3.index t = ![0, t.val % 10] := (by decide +kernel : ∀ t : Fin grid0.N, _)
theorem index4 : ∀ t : Fin cfg0.N, win0_4.index t = ![t.val / 10, t.val % 10] := (by decide +kernel : ∀ t : Fin grid0.N, _)
theorem index5 : ∀ t : Fin cfg0.N, win0_5.index t = ![t.val / 10, 0] := (by decide +kernel : ∀ t : Fin grid0.N, _)
theorem index6 : ∀ t : Fin cfg0.N, win0_6.index t = ![t.val / 10, 0] := (by decide +kernel : ∀ t : Fin grid0.N, _)

/-- The array's row under row `r` of the blocks of point `t`, and its column under column `k`. -/
def arow (t : Fin cfg0.N) (r : Fin 512) : Fin 12288 := ⟨t.val / 10 * 512 + r.val, by have := t.isLt; have h : cfg0.N = 240 := N_0; omega⟩
def acol (t : Fin cfg0.N) (k : Fin 512) : Fin 5120 := ⟨t.val % 10 * 512 + k.val, by omega⟩

/-- The activations, the weights, their scales and the bias, as the region finds them. -/
abbrev g (c : Dev nD) : S12288x5120.Idx → EReal := V m c main_arg0
abbrev w (c : Dev nD) : S5120x5120.Idx → EReal := V m c main_arg1
abbrev ws (c : Dev nD) : S1x5120.Idx → EReal := V m c main_v0
abbrev b (c : Dev nD) : S1x5120.Idx → EReal := V m c main_v1

theorem iblk0_apply (c : Dev nD) (t : Fin cfg0.N) (r : Fin 512) (k : Fin 5120) : iblk m c 0 t (ix2 r k) = g m c (ix2 (arow t r) k) := by
  refine congrArg (g m c) ?_
  blk_ext [index0, arow]

theorem iblk1_apply (c : Dev nD) (t : Fin cfg0.N) (r : Fin 5120) (k : Fin 512) : iblk m c 1 t (ix2 r k) = w m c (ix2 r (acol t k)) := by
  refine congrArg (w m c) ?_
  blk_ext [index1, acol]

theorem iblk2_apply (c : Dev nD) (t : Fin cfg0.N) (k : Fin 512) : iblk m c 2 t (ix2 0 k) = ws m c (ix2 0 (acol t k)) := by
  refine congrArg (ws m c) ?_
  blk_ext [index2, acol]

theorem iblk3_apply (c : Dev nD) (t : Fin cfg0.N) (k : Fin 512) : iblk m c 3 t (ix2 0 k) = b m c (ix2 0 (acol t k)) := by
  refine congrArg (b m c) ?_
  blk_ext [index3, acol]

theorem row_eq (c : Dev nD) (t : Fin cfg0.N) (r : Fin 512) : row (M := 512) (N := 5120) (iblk m c 0 t) r = row (g m c) (arow t r) :=
  funext fun k => iblk0_apply m c t r k

/-- The scales' array is any function each point's block is read from (stated of any proof data: only what the points
    leave in the window's buffer matters). -/
theorem covers6 (c : Dev nD) (D : Dat τ (Elt Ideal) Unit ℕ (UR sig nD τ) ℕ cfg0 c) (X : Fin cfg0.N → Vec Ideal S512x128 .f32)
    (G : Vec Ideal S12288x128 .f32) (h : ∀ t, D.after 6 t = X t) (hG : ∀ t y, X t y = G ((win0_6.blk t).view.emb y)) :
    D.arrAt 6 cfg0.N = G := by
  refine D.arrAt_eq_of_covers 6 _ (by decide +kernel) fun t hf y => ?_
  blk_simp
  rw [h]
  exact hG t y

theorem emb6 (t : Fin cfg0.N) (y : S512x128.Idx) : (win0_6.blk t).view.emb y = ix2 (arow t (y 0)) (y 1) := by
  blk_ext [index6, arow]

/-- The codes' array is any function each point's block is read from (stated of any proof data: only what the points
    leave in the window's buffer matters). -/
theorem covers5 (c : Dev nD) (D : Dat τ (Elt Ideal) Unit ℕ (UR sig nD τ) ℕ cfg0 c) (X : Fin cfg0.N → Vec Ideal S512x5120 .fp8e4m3)
    (G : Vec Ideal S12288x5120 .fp8e4m3) (h : ∀ t, D.after 5 t = X t) (hG : ∀ t y, X t y = G ((win0_5.blk t).view.emb y)) :
    D.arrAt 5 cfg0.N = G := by
  refine D.arrAt_eq_of_covers 5 _ (by decide +kernel) fun t hf y => ?_
  blk_simp
  rw [h]
  exact hG t y

theorem emb5 (t : Fin cfg0.N) (y : S512x5120.Idx) : (win0_5.blk t).view.emb y = ix2 (arow t (y 0)) (y 1) := by
  blk_ext [index5, arow]

/-- The product's array is any function each point's block is read from (stated of any proof data: only what the points
    leave in the window's buffer matters). -/
theorem covers4 (c : Dev nD) (D : Dat τ (Elt Ideal) Unit ℕ (UR sig nD τ) ℕ cfg0 c) (X : Fin cfg0.N → Vec Ideal S512x512 .bf16)
    (G : Vec Ideal S12288x5120 .bf16) (h : ∀ t, D.after 4 t = X t) (hG : ∀ t y, X t y = G ((win0_4.blk t).view.emb y)) :
    D.arrAt 4 cfg0.N = G := by
  refine D.arrAt_eq_of_covers 4 _ (by decide +kernel) fun t hf y => ?_
  blk_simp
  rw [h]
  exact hG t y

theorem emb4 (t : Fin cfg0.N) (y : S512x512.Idx) : (win0_4.blk t).view.emb y = ix2 (arow t (y 0)) (acol t (y 1)) := by
  blk_ext [index4, arow, acol]

variable (hfin : ∀ c j, FloatOps.absf (F := Ideal) (φ := .f32) (g m c j) ≤ fmax)
include hfin

theorem scales_blk (c : Dev nD) (t : Fin cfg0.N) (r : Fin 512) (l : Fin 128) :
    scales (F := Ideal) (iblk m c 0 t) (ix2 r l) = gs (L := 128) (g m c) (ix2 (arow t r) l) := by
  rw [scales_apply, row_eq]
  exact (scale_amount (by norm_num) _ fun k => hfin c _).1

theorem codes_blk (c : Dev nD) (t : Fin cfg0.N) (r : Fin 512) (k : Fin 5120) :
    codes (F := Ideal) (iblk m c 0 t) (ix2 r k) = gc (g m c) (ix2 (arow t r) k) := by
  rw [codes_apply, row_eq, iblk0_apply, (scale_amount (by norm_num) _ fun k => hfin c _).2]
  rfl

theorem prod_blk (c : Dev nD) (t : Fin cfg0.N) (r k : Fin 512) :
    prod (F := Ideal) (codes (iblk m c 0 t)) (scratch (iblk m c 0 t)) (iblk m c 1 t) (iblk m c 2 t) (iblk m c 3 t) (ix2 r k)
      = out (g m c) (w m c) (ws m c) (b m c) (ix2 (arow t r) (acol t k)) := by
  have h1 : ∀ i : Fin 5120, codes (F := Ideal) (iblk m c 0 t) (ix2 r i) * (iblk m c 1 t (ix2 i k) : EReal)
      = gc (g m c) (ix2 (arow t r) i) * w m c (ix2 i (acol t k)) := fun i => by rw [codes_blk m hfin, iblk1_apply]
  rw [prod_apply, scratch_eq, scales_blk m hfin, iblk2_apply, iblk3_apply, Finset.sum_congr rfl fun i _ => h1 i]
  rfl

/-- The scales after the grid. -/
theorem final6 (c : Dev nD) : (dats m 0 c).arrAt 6 cfg0.N = gs (L := 128) (g m c) := by
  refine covers6 c (dats m 0 c) (fun t => scales (F := Ideal) (iblk m c 0 t)) (gs (L := 128) (g m c)) (after0_6 m c) fun t y => ?_
  rw [emb6]
  refine Eq.trans ?_ (scales_blk m hfin c t (y 0) (y 1))
  exact congrArg _ (eq_ix2 y)

/-- The codes after the grid. -/
theorem final5 (c : Dev nD) : (dats m 0 c).arrAt 5 cfg0.N = gc (g m c) := by
  refine covers5 c (dats m 0 c) (fun t => codes (F := Ideal) (iblk m c 0 t)) (gc (g m c)) (after0_5 m c) fun t y => ?_
  rw [emb5]
  refine Eq.trans ?_ (codes_blk m hfin c t (y 0) (y 1))
  exact congrArg _ (eq_ix2 y)

/-- The product after the grid. -/
theorem final4 (c : Dev nD) : (dats m 0 c).arrAt 4 cfg0.N = out (g m c) (w m c) (ws m c) (b m c) := by
  refine covers4 c (dats m 0 c) (fun t => prod (F := Ideal) (codes (iblk m c 0 t)) (scratch (iblk m c 0 t)) (iblk m c 1 t) (iblk m c 2 t) (iblk m c 3 t)) (out (g m c) (w m c) (ws m c) (b m c)) (after0_4 m c) fun t y => ?_
  rw [emb4]
  refine Eq.trans ?_ (prod_blk m hfin c t (y 0) (y 1))
  exact congrArg _ (eq_ix2 y)

end Cert.KernelIdeal.Val

end
-- ==== Proof.KernelRun.lean ====
module

public import proofs.«01_k».proof.Proof.KernelValue

@[expose] public section

/-! The kernel's run with its results named: the functions of Meaning at the argument arrays it was launched with. -/

noncomputable section

namespace Cert.KernelIdeal.Val

open Idealize.ShloMosaic Idealize.ShloMosaic.ValueIdx Idealize.ShloMosaic.TcCoe Idealize.SL.Sem
open Cert.KernelIdeal.Gen Cert.KernelIdeal.Run Cert.Meaning

variable (m : (ℓ : Loc nD τ sig) → Buf (Elt Ideal) ℓ) (ρ : Dev nD → PrngReg)

/-- A vector of 5120 numbers as the one row of a matrix. -/
abbrev asRow (v : Vec Ideal S5120 .f32) : Vec Ideal S1x5120 .f32 := shapeCast S1x5120 v shapeCasts_S5120_S1x5120

/-- The two host operations. -/
abbrev op0 : HloOp τ sig (Elt Ideal) := StableHlo.reshape main_arg2 main_v0 (rfl : (.f32 : EltTy) = .f32) shapeCasts_S5120_S1x5120
abbrev op1 : HloOp τ sig (Elt Ideal) := StableHlo.reshape main_arg3 main_v1 (rfl : (.f32 : EltTy) = .f32) shapeCasts_S5120_S1x5120
/-- The buffers at launch, and after the first operation. -/
abbrev V₀ (c : Dev nD) : Valuation τ sig (Elt Ideal) := fun b => m (c, b)
abbrev V₁ (c : Dev nD) : Valuation τ sig (Elt Ideal) := op0.result (V₀ m c)

/-- The weight scales, as the region finds them: the argument reshaped. -/
theorem V_v0 (c : Dev nD) : V m c main_v0 = asRow (m ((c : Thread nD τ).loc main_arg2)) := by
  have h1 : op1.result (V₁ m c) main_v0 = V₁ m c main_v0 :=
    StableHlo.reshape_result_ne main_arg3 main_v1 _ _ _ _ (V₁ m c) (r := main_v0) (by decide)
  have h0 : V₁ m c main_v0 = asRow (m ((c : Thread nD τ).loc main_arg2)) :=
    (StableHlo.reshape_result (Val := Elt Ideal) main_arg2 main_v0 rfl shapeCasts_S5120_S1x5120 _ _ (V₀ m c)).trans rfl
  exact h1.trans h0

/-- The bias, as the region finds it: the argument reshaped. -/
theorem V_v1 (c : Dev nD) : V m c main_v1 = asRow (m ((c : Thread nD τ).loc main_arg3)) := by
  have h1 : op1.result (V₁ m c) main_v1 = asRow (V₁ m c main_arg3) :=
    (StableHlo.reshape_result (Val := Elt Ideal) main_arg3 main_v1 rfl shapeCasts_S5120_S1x5120 _ _ (V₁ m c)).trans rfl
  have h0 : V₁ m c main_arg3 = m ((c : Thread nD τ).loc main_arg3) :=
    StableHlo.reshape_result_ne main_arg2 main_v0 _ _ _ _ (V₀ m c) (r := main_arg3) (by decide)
  exact h1.trans (congrArg asRow h0)

/-- The run: the product, the codes and the scales, and the arguments as they were. -/
theorem run (hfin : ∀ c j, FloatOps.absf (F := Ideal) (φ := .f32) (g m c j) ≤ fmax) : θ_run defs (onTc (τ := τ) (main (F := Ideal))) ⟨m, fun _ => 0, ρ⟩ fun r => ∀ c : Dev nD,
      r.2.mem ((c : Thread nD τ).loc main_v2_0) = out (M := 12288) (N := 5120) (K := 5120) (m ((c : Thread nD τ).loc main_arg0)) (m ((c : Thread nD τ).loc main_arg1))
        (asRow (m ((c : Thread nD τ).loc main_arg2))) (asRow (m ((c : Thread nD τ).loc main_arg3)))
      ∧ r.2.mem ((c : Thread nD τ).loc main_v2_1) = gc (M := 12288) (N := 5120) (m ((c : Thread nD τ).loc main_arg0))
      ∧ r.2.mem ((c : Thread nD τ).loc main_v2_2) = gs (M := 12288) (N := 5120) (L := 128) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨((h c).1 4).trans ((final4 m hfin c).trans ?r4), ((h c).1 5).trans ((final5 m hfin c).trans ?r5),
    ((h c).1 6).trans ((final6 m hfin c).trans ?r6),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (Cert.KernelIdeal.Run.run_main m ρ)
  case r4 =>
    unfold g w ws b
    rw [V_main_arg0, V_main_arg1, V_v0, V_v1]
  case r5 => unfold g; rw [V_main_arg0]
  case r6 => unfold g; rw [V_main_arg0]

end Cert.KernelIdeal.Val

end
-- ==== Proof.Finite.lean ====
module

public import proofs.«01_k».proof.Defs
public import proofs.«01_k».proof.Proof.KernelRun

@[expose] public section

/-! The precondition, as the bound the kernel's proof takes: every activation's magnitude is at most the greatest
    finite float. -/

noncomputable section

namespace Cert.Finite

open Idealize.ShloMosaic Idealize.ShloMosaic.TcCoe

/-- The shape relation the precondition's function states. -/
theorem facts : Cert.Pre_finite.Facts := ⟨by decide⟩

/-- A comparison that reads 1 holds. -/
theorem le_of_cmpf {x y : EReal} (h : FloatOps.cmpf (F := Ideal) (φ := .f32) .ole x y = 1#1) : x ≤ y := by
  by_contra hc
  have : FloatOps.cmpf (F := Ideal) (φ := .f32) .ole x y = BitVec.ofBool (decide (x ≤ y)) := rfl
  rw [this, decide_eq_false hc] at h
  exact absurd h (by decide)

/-- The function's value at an index. -/
theorem fn_apply [Cert.Pre_finite.Facts] {F : FTy → Type} [FloatOps F] (x : FVec F Cert.Pre_finite.S12288x5120 .f32) (w : FVec F Cert.Pre_finite.S5120x5120 .fp8e4m3)
    (s b : FVec F Cert.Pre_finite.S5120 .f32) (j : Cert.Pre_finite.S12288x5120.Idx) :
    Cert.Pre_finite.fn x w s b j = FloatOps.cmpf .ole (Host.absf x j) (Scalar.ofBits .f32 0x7F7FFFFF#32) := rfl

theorem bound [Cert.Pre_finite.Facts] (m : (ℓ : Loc Cert.KernelIdeal.nD Cert.KernelIdeal.τ Cert.KernelIdeal.sig) → Buf (Elt Ideal) ℓ)
    (h : Cert.Pre_KernelIdeal_finite m) : ∀ c j, FloatOps.absf (F := Ideal) (φ := .f32) (Cert.KernelIdeal.Val.g m c j) ≤ Cert.Meaning.fmax := by
  intro c j
  unfold Cert.KernelIdeal.Val.g
  rw [Cert.KernelIdeal.Gen.V_main_arg0]
  refine le_of_cmpf (Eq.trans ?_ (congrFun (h c) j))
  rw [fn_apply]
  rfl

end Cert.Finite

end
-- ==== Proof.ReferenceRead.lean ====
module

public import proofs.«01_k».proof.Proof.Gen.ReferenceIdeal.Frame
public import proofs.«01_k».proof.Proof.KernelRead

@[expose] public section

set_option maxRecDepth 16384

/-! The reference's payloads read at an index, over the extended reals. -/

noncomputable section

namespace Cert.ReferenceIdeal.Read

open Idealize.ShloMosaic Idealize.ShloMosaic.ValueIdx
open Cert.ReferenceIdeal.Gen Cert.Meaning
open Cert.KernelIdeal.Read (mulf_read addf_read truncf_read)
open scoped BigOperators

/-- A row's exponent from its greatest magnitude, as the reference computes it, over any floats. -/
def expoOf {F : FTy → Type} [FloatOps F] (t : F .f32) : F .f32 :=
  let r : F .f32 := FloatOps.mulf t (Scalar.ofBits .f32 0x3B124925#32)
  let f : F .f32 := Scalar.select (FloatOps.cmpf .olt r (Scalar.ofBits .f32 0x00800000#32)) (Scalar.ofBits .f32 0x00000000#32) r
  Scalar.select (FloatOps.cmpf .oeq f (Scalar.ofBits .f32 0x00000000#32)) (Scalar.ofBits .f32 0x00000000#32)
    (FloatOps.addf (FloatOps.floor (FloatOps.divf (FloatOps.log f) (FloatOps.log (Scalar.ofBits .f32 0x40000000#32)))) (Scalar.ofBits .f32 0x3F800000#32))

theorem pay3_read {F : FTy → Type} [FloatOps F] (P : Vec F S12288x5120 .f32) (y : S12288x1.Idx) :
    k0_pay3 P y = expoOf (shapeCast S12288x1 (multiReduction .maximumf [1] S12288 (absf P) 0xFF800000#32 reduces_S12288x5120_S12288 (.inl rfl) rfl)
      shapeCasts_S12288_S12288x1 y) := rfl

theorem expoOf_ideal (t : EReal) : expoOf (F := Ideal) t = Exponent.refExpo (t * c448) := by
  unfold expoOf Exponent.refExpo Exponent.flush c448
  rfl

/-- A column made of a vector. -/
theorem col_apply (v : FVec Ideal S12288 .f32) (r : Fin 12288) : shapeCast S12288x1 v shapeCasts_S12288_S12288x1 (ix2 r (0 : Fin 1)) = v (ix1 r) :=
  shapeCast_apply _ _ (ix2 r (0 : Fin 1)) (ix1 r) rfl

/-- The rows' greatest magnitudes. -/
theorem tops_apply (P : Vec Ideal S12288x5120 .f32) (r : Fin 12288) :
    multiReduction (F := Ideal) .maximumf [1] S12288 (absf P) 0xFF800000#32 reduces_S12288x5120_S12288 (.inl rfl) rfl (ix1 r) = amax (row P r) :=
  rowMax P _ _ _ r

theorem expoOf_amax (P : Vec Ideal S12288x5120 .f32) (r : Fin 12288) (t : EReal) (h : t = amax (row P r)) :
    expoOf (F := Ideal) t = Exponent.refExpo (amount (row P r)) := by
  rw [expoOf_ideal, h, amount]

/-- The column of exponents, at a row. -/
theorem pay3_apply (P : Vec Ideal S12288x5120 .f32) (r : Fin 12288) :
    k0_pay3 (F := Ideal) P (ix2 r (0 : Fin 1)) = Exponent.refExpo (amount (row P r)) :=
  (pay3_read P (ix2 r (0 : Fin 1))).trans (expoOf_amax P r _ ((col_apply _ r).trans (tops_apply P r)))

theorem exp2_read {s : Shape} (a : FVec Ideal s .f32) (j : s.Idx) (x : EReal) (ha : a j = Exponent.refExpo x) : exp2 a j = Exponent.refScale x := by
  unfold Exponent.refScale
  rw [← ha]; rfl
theorem inv_read {s : Shape} (a : FVec Ideal s .f32) (j : s.Idx) (x : EReal) (ha : a j = Exponent.refExpo x) :
    exp2 (subf (broadcast s (Scalar.ofBits (F := Ideal) .f32 0x00000000#32)) a) j = Exponent.refInv x := by
  unfold Exponent.refInv
  rw [← ha]; rfl

/-- The column of scales, at a row. -/
theorem pay5_apply (P : Vec Ideal S12288x5120 .f32) (r : Fin 12288) :
    k0_pay5 (F := Ideal) P (ix2 r (0 : Fin 1)) = Exponent.refScale (amount (row P r)) := by
  unfold k0_pay5
  exact exp2_read _ _ _ (pay3_apply P r)

/-- The scales, at an index. -/
theorem pay2_apply (P : Vec Ideal S12288x5120 .f32) (r : Fin 12288) (l : Fin 128) :
    k0_pay2 (F := Ideal) (k0_pay5 P) (ix2 r l) = gs (L := 128) P (ix2 r l) := by
  unfold k0_pay2
  rw [shapeCast_self]
  exact (broadcastTo_apply _ _ (ix2 r l) (ix2 r (0 : Fin 1)) (fun a => match a with | ⟨0, _⟩ => rfl | ⟨1, _⟩ => rfl)).trans (pay5_apply P r)

/-- Clipping to the range of the codes, at an index. -/
theorem clip_read (a : FVec Ideal S12288x5120 .f32) (j : S12288x5120.Idx) (u v : EReal) (ha : a j = u * v) :
    truncf .fp8e4m3 (minimumf (broadcast S12288x5120 (Scalar.ofBits (F := Ideal) .f32 0x43E00000#32))
      (maximumf (broadcast S12288x5120 (Scalar.ofBits (F := Ideal) .f32 0xC3E00000#32)) a)) bitsLt_fp8e4m3_f32 j = code u v := by
  unfold code
  rw [← ha]; rfl

/-- The codes, at an index. -/
theorem pay4_apply (P : Vec Ideal S12288x5120 .f32) (r : Fin 12288) (k : Fin 5120) : k0_pay4 (F := Ideal) P (ix2 r k) = gc P (ix2 r k) := by
  unfold k0_pay4
  refine clip_read _ _ (P (ix2 r k)) (Exponent.refInv (amount (row P r))) ?_
  refine mulf_read _ _ _ _ _ rfl ?_
  refine (broadcastTo_apply _ _ (ix2 r k) (ix2 r (0 : Fin 1)) (fun a => match a with | ⟨0, _⟩ => rfl | ⟨1, _⟩ => rfl)).trans ?_
  exact inv_read _ _ _ (pay3_apply P r)

/-- The rescaled product. -/
theorem pay6_apply (P : Vec Ideal S12288x5120 .f32) (w : Vec Ideal S5120x5120 .fp8e4m3) (ws : Vec Ideal S1x5120 .f32) (r : Fin 12288) (k : Fin 5120) :
    k0_pay6 (F := Ideal) P w ws (ix2 r k)
      = ((∑ i : Fin 5120, gc P (ix2 r i) * w (ix2 i k)) * Exponent.refScale (amount (row P r))) * ws (ix2 0 k) := by
  have e1 : (matmul (φ₁ := .fp8e4m3) (φ₂ := .fp8e4m3) dot_S12288x5120_S5120x5120_S12288x5120_1_0_0_1_n_n none
      (k0_pay4 P) w (constant S12288x5120 .f32 0x00000000#32) : FVec Ideal S12288x5120 .f32) (ix2 r k) = ∑ i : Fin 5120, gc P (ix2 r i) * w (ix2 i k) := by
    refine (Ideal.matmul_plain_apply (M := 12288) (K := 5120) (N := 5120) none (k0_pay4 P) w _ r k).trans ?_
    show Ideal.ofBits .f32 0x00000000#32 + _ = _
    rw [Ideal.ofBits_zero_f32, zero_add]
    refine Finset.sum_congr rfl fun i _ => ?_
    rw [pay4_apply]
  have e2 : broadcastTo S12288x5120 (k0_pay5 P) broadcasts_S12288x1_S12288x5120 (ix2 r k) = Exponent.refScale (amount (row P r)) :=
    (broadcastTo_apply _ _ (ix2 r k) (ix2 r (0 : Fin 1)) (fun a => match a with | ⟨0, _⟩ => rfl | ⟨1, _⟩ => rfl)).trans (pay5_apply P r)
  have e3 : broadcastTo S12288x5120 (shapeCast S1x5120 ws shapeCasts_S1x5120_S1x5120) broadcasts_S1x5120_S12288x5120 (ix2 r k) = ws (ix2 0 k) := by
    rw [shapeCast_self]
    exact broadcastTo_apply _ _ (ix2 r k) (ix2 (0 : Fin 1) k) (fun a => match a with | ⟨0, _⟩ => rfl | ⟨1, _⟩ => rfl)
  unfold k0_pay6
  exact mulf_read _ _ _ _ _ (mulf_read _ _ _ _ _ e1 e2) e3

/-- The product with its bias. -/
theorem pay1_apply (P : Vec Ideal S12288x5120 .f32) (w : Vec Ideal S5120x5120 .fp8e4m3) (ws b : Vec Ideal S1x5120 .f32) (r : Fin 12288) (k : Fin 5120) :
    k0_pay1 (F := Ideal) (k0_pay6 P w ws) b (ix2 r k) = out P w ws b (ix2 r k) := by
  have e3 : broadcastTo S12288x5120 (shapeCast S1x5120 b shapeCasts_S1x5120_S1x5120) broadcasts_S1x5120_S12288x5120 (ix2 r k) = b (ix2 0 k) := by
    rw [shapeCast_self]
    exact broadcastTo_apply _ _ (ix2 r k) (ix2 (0 : Fin 1) k) (fun a => match a with | ⟨0, _⟩ => rfl | ⟨1, _⟩ => rfl)
  unfold k0_pay1
  exact truncf_read _ _ _ _ _ (addf_read _ _ _ _ _ (pay6_apply P w ws r k) e3)

/-! ## What the one point leaves in its buffers -/

theorem zeros : (![0, 0] : Fin 2 → Nat) = fun _ => 0 := funext fun a => match a with | ⟨0, _⟩ => rfl | ⟨1, _⟩ => rfl

theorem out4_eq (P : Vec Ideal S12288x5120 .f32) (w : Vec Ideal S5120x5120 .fp8e4m3) (ws b : Vec Ideal S1x5120 .f32) :
    out0_4 (F := Ideal) P w ws b = out P w ws b := by
  unfold out0_4
  rw [View.canon_unit_zero zeros, View.ld_unit_zero zeros, View.ld_unit_zero zeros, View.ld_unit_zero zeros, View.ld_unit_zero zeros]
  funext y
  rw [eq_ix2 y]
  exact pay1_apply P w ws b (y 0) (y 1)

theorem out5_eq (P : Vec Ideal S12288x5120 .f32) (w : Vec Ideal S5120x5120 .fp8e4m3) (ws b : Vec Ideal S1x5120 .f32) :
    out0_5 (F := Ideal) P w ws b = gc P := by
  unfold out0_5
  rw [View.canon_unit_zero zeros, View.ld_unit_zero zeros]
  funext y
  rw [eq_ix2 y]
  exact pay4_apply P (y 0) (y 1)

theorem out6_eq (P : Vec Ideal S12288x5120 .f32) (w : Vec Ideal S5120x5120 .fp8e4m3) (ws b : Vec Ideal S1x5120 .f32) :
    out0_6 (F := Ideal) P w ws b = gs (L := 128) P := by
  unfold out0_6
  rw [View.canon_unit_zero zeros, View.ld_unit_zero zeros]
  funext y
  rw [eq_ix2 y]
  exact pay2_apply P (y 0) (y 1)

end Cert.ReferenceIdeal.Read

end
-- ==== Proof.ReferenceValue.lean ====
module

public import proofs.«01_k».proof.Proof.ReferenceRead

@[expose] public section

set_option maxRecDepth 16384

/-! The reference's three result arrays over the extended reals, as functions of the whole argument arrays. -/

noncomputable section

namespace Cert.ReferenceIdeal.Val

open Idealize.ShloMosaic Idealize.ShloMosaic.ValueIdx Idealize.ShloMosaic.TcCoe Idealize.SL.Sem
open Idealize.ShloMosaic.Pipeline (Dat Cfg Window)
open Cert.ReferenceIdeal.Gen Cert.ReferenceIdeal.Read Cert.Meaning

variable (m : (ℓ : Loc nD τ sig) → Buf (Elt Ideal) ℓ)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)

/-- The activations, the weights, their scales and the bias, as the region finds them. -/
abbrev g (c : Dev nD) : S12288x5120.Idx → EReal := V m c main_arg0
abbrev w (c : Dev nD) : S5120x5120.Idx → EReal := V m c main_arg1
abbrev ws (c : Dev nD) : S1x5120.Idx → EReal := V m c main_v0
abbrev b (c : Dev nD) : S1x5120.Idx → EReal := V m c main_v1

/-! The one point's blocks are the arrays. -/

theorem iblk0_eq (c : Dev nD) (t : Fin cfg0.N) : iblk m c 0 t = g m c := funext fun y => by
  refine congrArg (g m c) ?_
  blk_ext [index0]
theorem iblk1_eq (c : Dev nD) (t : Fin cfg0.N) : iblk m c 1 t = w m c := funext fun y => by
  refine congrArg (w m c) ?_
  blk_ext [index1]
theorem iblk2_eq (c : Dev nD) (t : Fin cfg0.N) : iblk m c 2 t = ws m c := funext fun y => by
  refine congrArg (ws m c) ?_
  blk_ext [index2]
theorem iblk3_eq (c : Dev nD) (t : Fin cfg0.N) : iblk m c 3 t = b m c := funext fun y => by
  refine congrArg (b m c) ?_
  blk_ext [index3]

/-- Output window 6's array is what the one point leaves in its buffer (stated of any proof data). -/
theorem covers6 (c : Dev nD) (D : Dat τ (Elt Ideal) Unit ℕ (UR sig nD τ) ℕ cfg0 c) (G : Vec Ideal S12288x128 .f32)
    (h : ∀ t, D.after 6 t = G) : D.arrAt 6 cfg0.N = G := by
  refine D.arrAt_eq_of_covers 6 _ (by decide +kernel) fun t hf y => ?_
  have e : (win0_6.blk t).view.emb y = y := by
    blk_ext [index6]
  blk_simp
  rw [h]
  exact congrArg G e.symm

/-- Output window 5's array is what the one point leaves in its buffer (stated of any proof data). -/
theorem covers5 (c : Dev nD) (D : Dat τ (Elt Ideal) Unit ℕ (UR sig nD τ) ℕ cfg0 c) (G : Vec Ideal S12288x5120 .fp8e4m3)
    (h : ∀ t, D.after 5 t = G) : D.arrAt 5 cfg0.N = G := by
  refine D.arrAt_eq_of_covers 5 _ (by decide +kernel) fun t hf y => ?_
  have e : (win0_5.blk t).view.emb y = y := by
    blk_ext [index5]
  blk_simp
  rw [h]
  exact congrArg G e.symm

/-- Output window 4's array is what the one point leaves in its buffer (stated of any proof data). -/
theorem covers4 (c : Dev nD) (D : Dat τ (Elt Ideal) Unit ℕ (UR sig nD τ) ℕ cfg0 c) (G : Vec Ideal S12288x5120 .bf16)
    (h : ∀ t, D.after 4 t = G) : D.arrAt 4 cfg0.N = G := by
  refine D.arrAt_eq_of_covers 4 _ (by decide +kernel) fun t hf y => ?_
  have e : (win0_4.blk t).view.emb y = y := by
    blk_ext [index4]
  blk_simp
  rw [h]
  exact congrArg G e.symm

/-! ## The arrays after the run -/

theorem final6 (c : Dev nD) : (dats m 0 c).arrAt 6 cfg0.N = gs (L := 128) (g m c) :=
  covers6 c (dats m 0 c) _ fun t => by rw [after0_6, iblk0_eq, out6_eq]

theorem final5 (c : Dev nD) : (dats m 0 c).arrAt 5 cfg0.N = gc (g m c) :=
  covers5 c (dats m 0 c) _ fun t => by rw [after0_5, iblk0_eq, out5_eq]

theorem final4 (c : Dev nD) : (dats m 0 c).arrAt 4 cfg0.N = out (g m c) (w m c) (ws m c) (b m c) :=
  covers4 c (dats m 0 c) _ fun t => by rw [after0_4, iblk0_eq, iblk1_eq, iblk2_eq, iblk3_eq, out4_eq]

end Cert.ReferenceIdeal.Val

end
-- ==== Proof.ReferenceRun.lean ====
module

public import proofs.«01_k».proof.Proof.ReferenceValue

@[expose] public section

/-! The reference's run with its results named: the functions of Meaning at the argument arrays it was launched with. -/

noncomputable section

namespace Cert.ReferenceIdeal.Val

open Idealize.ShloMosaic Idealize.ShloMosaic.ValueIdx Idealize.ShloMosaic.TcCoe Idealize.SL.Sem
open Cert.ReferenceIdeal.Gen Cert.Meaning

variable (m : (ℓ : Loc nD τ sig) → Buf (Elt Ideal) ℓ) (ρ : Dev nD → PrngReg)

/-- A vector of 5120 numbers as the one row of a matrix. -/
abbrev asRow (v : Vec Ideal S5120 .f32) : Vec Ideal S1x5120 .f32 := shapeCast S1x5120 v shapeCasts_S5120_S1x5120

/-- The two host operations. -/
abbrev op0 : HloOp τ sig (Elt Ideal) := StableHlo.reshape main_arg2 main_v0 (rfl : (.f32 : EltTy) = .f32) shapeCasts_S5120_S1x5120
abbrev op1 : HloOp τ sig (Elt Ideal) := StableHlo.reshape main_arg3 main_v1 (rfl : (.f32 : EltTy) = .f32) shapeCasts_S5120_S1x5120
/-- The buffers at launch, and after the first operation. -/
abbrev V₀ (c : Dev nD) : Valuation τ sig (Elt Ideal) := fun b => m (c, b)
abbrev V₁ (c : Dev nD) : Valuation τ sig (Elt Ideal) := op0.result (V₀ m c)

/-- The weight scales, as the region finds them: the argument reshaped. -/
theorem V_v0 (c : Dev nD) : V m c main_v0 = asRow (m ((c : Thread nD τ).loc main_arg2)) := by
  have h1 : op1.result (V₁ m c) main_v0 = V₁ m c main_v0 :=
    StableHlo.reshape_result_ne main_arg3 main_v1 _ _ _ _ (V₁ m c) (r := main_v0) (by decide)
  have h0 : V₁ m c main_v0 = asRow (m ((c : Thread nD τ).loc main_arg2)) :=
    (StableHlo.reshape_result (Val := Elt Ideal) main_arg2 main_v0 rfl shapeCasts_S5120_S1x5120 _ _ (V₀ m c)).trans rfl
  exact h1.trans h0

/-- The bias, as the region finds it: the argument reshaped. -/
theorem V_v1 (c : Dev nD) : V m c main_v1 = asRow (m ((c : Thread nD τ).loc main_arg3)) := by
  have h1 : op1.result (V₁ m c) main_v1 = asRow (V₁ m c main_arg3) :=
    (StableHlo.reshape_result (Val := Elt Ideal) main_arg3 main_v1 rfl shapeCasts_S5120_S1x5120 _ _ (V₁ m c)).trans rfl
  have h0 : V₁ m c main_arg3 = m ((c : Thread nD τ).loc main_arg3) :=
    StableHlo.reshape_result_ne main_arg2 main_v0 _ _ _ _ (V₀ m c) (r := main_arg3) (by decide)
  exact h1.trans (congrArg asRow h0)

/-- The run: the product, the codes and the scales, and the arguments as they were. -/
theorem run : θ_run defs (onTc (τ := τ) (main (F := Ideal))) ⟨m, fun _ => 0, ρ⟩ fun r => ∀ c : Dev nD,
      r.2.mem ((c : Thread nD τ).loc main_v2_0) = out (M := 12288) (N := 5120) (K := 5120) (m ((c : Thread nD τ).loc main_arg0)) (m ((c : Thread nD τ).loc main_arg1))
        (asRow (m ((c : Thread nD τ).loc main_arg2))) (asRow (m ((c : Thread nD τ).loc main_arg3)))
      ∧ r.2.mem ((c : Thread nD τ).loc main_v2_1) = gc (M := 12288) (N := 5120) (m ((c : Thread nD τ).loc main_arg0))
      ∧ r.2.mem ((c : Thread nD τ).loc main_v2_2) = gs (M := 12288) (N := 5120) (L := 128) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨((h c).1 4).trans ((final4 m c).trans ?r4), ((h c).1 5).trans ((final5 m c).trans ?r5),
    ((h c).1 6).trans ((final6 m c).trans ?r6),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (Cert.ReferenceIdeal.Gen.run_main m ρ)
  case r4 =>
    unfold g w ws b
    rw [V_main_arg0, V_main_arg1, V_v0, V_v1]
  case r5 => unfold g; rw [V_main_arg0]
  case r6 => unfold g; rw [V_main_arg0]

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Linear1
public import proofs.«01_k».proof.Proof.Gen.Linear1.Skeleton
public import proofs.«01_k».proof.Proof.Gen.Linear1.Launch
public import proofs.«01_k».proof.Proof.Gen.Linear1.Points
public import proofs.«01_k».proof.Proof.Gen.Linear1.Frame
public import proofs.«01_k».proof.Proof.Gen.Linear1Ideal
public import proofs.«01_k».proof.Proof.Gen.Linear1Ideal.Skeleton
public import proofs.«01_k».proof.Proof.Gen.Linear1Ideal.Launch
public import proofs.«01_k».proof.Proof.Gen.Linear1Ideal.Points
public import proofs.«01_k».proof.Proof.Gen.Linear1Ideal.Frame
public import proofs.«01_k».proof.Proof.Gen.Linear1ReferenceIdeal
public import proofs.«01_k».proof.Proof.Gen.Linear1ReferenceIdeal.Skeleton
public import proofs.«01_k».proof.Proof.Gen.Linear1ReferenceIdeal.Launch
public import proofs.«01_k».proof.Proof.Gen.Linear1ReferenceIdeal.Points
public import proofs.«01_k».proof.Proof.Gen.Linear1ReferenceIdeal.Frame
public import proofs.«01_k».proof.Proof.Gen.Linear1Exact
public import proofs.«01_k».proof.Proof.Gen.Linear1Exact.Skeleton
public import proofs.«01_k».proof.Proof.Gen.Linear1Exact.Launch
public import proofs.«01_k».proof.Proof.Gen.Linear1Exact.Points
public import proofs.«01_k».proof.Proof.Gen.Linear1Exact.Frame
public import proofs.«01_k».proof.Proof.Gen.Linear1ExactIdeal
public import proofs.«01_k».proof.Proof.Gen.Linear1ExactIdeal.Skeleton
public import proofs.«01_k».proof.Proof.Gen.Linear1ExactIdeal.Launch
public import proofs.«01_k».proof.Proof.Gen.Linear1ExactIdeal.Points
public import proofs.«01_k».proof.Proof.Gen.Linear1ExactIdeal.Frame
public import proofs.«01_k».proof.Proof.PrintedRun
public import proofs.«01_k».proof.Proof.Linear1Run
public import proofs.«01_k».proof.Proof.Linear1ReferenceRun
public import proofs.«01_k».proof.Proof.ExactRun
public import proofs.«01_k».proof.Proof.ExactNear
public import proofs.«01_k».proof.Proof.Finite
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  haveI := Cert.Finite.facts
  have hk := Cert.KernelIdeal.Val.run m g (Cert.Finite.bound m hpre)
  have hr := Cert.ReferenceIdeal.Val.run m' g'
  refine ⟨_, _, _, hk, (θ_run _ _ _).mono (fun r h c => ?_) hr⟩
  obtain ⟨a0, a1, a2, a3⟩ := hargs c
  obtain ⟨h0, h1, h2, hrest⟩ := h c
  rw [a0, a1, a2, a3] at h0
  rw [a0] at h1 h2
  exact ⟨h0, h1, h2, hrest⟩

theorem layer1 : Cert.algebraic_Linear1Ideal_Linear1ReferenceIdeal (hLinear1Ideal := Cert.Linear1Ideal.Gen.facts)
    (hLinear1ReferenceIdeal := Cert.Linear1ReferenceIdeal.Gen.facts) := by
  intro m g m' g' hpre hargs
  have hk := Cert.Linear1Ideal.Val.run m g
  have hr := Cert.Linear1ReferenceIdeal.Val.run m' g'
  refine ⟨_, hk, (θ_run _ _ _).mono (fun r h c => ?_) hr⟩
  obtain ⟨a0, a1, a2, a3, a4⟩ := hargs c
  obtain ⟨h0, hrest⟩ := h c
  rw [a0, a1, a2, a3, a4] at h0
  exact ⟨h0, hrest⟩

theorem claim : Cert.Claim :=
  ⟨Cert.Kernel.Gen.facts, Cert.KernelIdeal.Gen.facts, Cert.ReferenceIdeal.Gen.facts,
    Cert.Linear1.Gen.facts, Cert.Linear1Ideal.Gen.facts, Cert.Linear1ReferenceIdeal.Gen.facts,
    Cert.Linear1Exact.Gen.facts, Cert.Linear1ExactIdeal.Gen.facts, Cert.Finite.facts, Cert.Linear1ExactIdeal.Near.facts,
    fun m g _ => Cert.Kernel.Run.frame m g,
    fun m g _ => Cert.KernelIdeal.Run.frame m g,
    fun m g _ => Cert.KernelIdeal.Run.frame m g,
    fun m g _ => Cert.ReferenceIdeal.Gen.frame m g,
    fun m g _ => Cert.ReferenceIdeal.Gen.frame m g,
    fun m g _ => Cert.Linear1.Gen.frame m g,
    fun m g _ => Cert.Linear1Ideal.Gen.frame m g,
    fun m g _ => Cert.Linear1ReferenceIdeal.Gen.frame m g,
    fun m g _ => Cert.Linear1Exact.Gen.frame m g,
    fun m g _ => Cert.Linear1ExactIdeal.Gen.frame m g,
    trivial,
    algebraic,
    trivial,
    layer1,
    trivial,
    Cert.Linear1ExactIdeal.Near.holds⟩

end Cert.Proof

end
